-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x8x1024 : Shape := ⟨3, ![2, 8, 1024]⟩
abbrev S3x2064x1024 : Shape := ⟨3, ![3, 2064, 1024]⟩
abbrev S2x2048x1024 : Shape := ⟨3, ![2, 2048, 1024]⟩
abbrev S3 : Shape := ⟨1, ![3]⟩
abbrev S2 : Shape := ⟨1, ![2]⟩
abbrev S_ : Shape := ⟨0, ![]⟩
abbrev S1 : Shape := ⟨1, ![1]⟩
abbrev S1x8x1024 : Shape := ⟨3, ![1, 8, 1024]⟩
abbrev S8x1024 : Shape := ⟨2, ![8, 1024]⟩
abbrev S1x2064x1024 : Shape := ⟨3, ![1, 2064, 1024]⟩
abbrev S2064x1024 : Shape := ⟨2, ![2064, 1024]⟩
abbrev S1x2056x1024 : Shape := ⟨3, ![1, 2056, 1024]⟩
abbrev S2056x1024 : Shape := ⟨2, ![2056, 1024]⟩
abbrev S1x2048x1024 : Shape := ⟨3, ![1, 2048, 1024]⟩
abbrev S2048x1024 : Shape := ⟨2, ![2048, 1024]⟩
abbrev S1x2047x1024 : Shape := ⟨3, ![1, 2047, 1024]⟩
abbrev S2047x1024 : Shape := ⟨2, ![2047, 1024]⟩
abbrev S1x1x1024 : Shape := ⟨3, ![1, 1, 1024]⟩
abbrev S1x1024 : Shape := ⟨2, ![1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2x8x1024, .f32⟩
  | .local _ .vmem, ⟨1, _⟩ => ⟨S3x2064x1024, .f32⟩
  | .local _ .vmem, ⟨2, _⟩ => ⟨S2x2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22 : BitVec 32 := 1#32
  let v30 : BitVec 32 := Scalar.muli v13 c1_i32_22
  let v31 : BitVec 32 := Scalar.addi c0_i32_23 v30
  v31.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v39 : BitVec 32 := Scalar.muli v24 c1_i32_31
  let v40 : BitVec 32 := Scalar.addi c0_i32_32 v39
  v40.toNat
-- ==== ReferenceIdeal.lean ====
abbrev S65536x1024 : Shape := ⟨2, ![65536, 1024]⟩
abbrev S65534x1024 : Shape := ⟨2, ![65534, 1024]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65534x1024, .f32⟩
  | .hbm, ⟨2, _⟩ => ⟨S_, .f32⟩
  | .hbm, ⟨3, _⟩ => ⟨S65534x1024, .f32⟩
  | .hbm, ⟨4, _⟩ => ⟨S65534x1024, .f32⟩
  | .hbm, ⟨5, _⟩ => ⟨S65534x1024, .f32⟩
  | .hbm, ⟨6, _⟩ => ⟨S_, .f32⟩
  | .hbm, ⟨7, _⟩ => ⟨S65534x1024, .f32⟩
  | .hbm, ⟨8, _⟩ => ⟨S65534x1024, .f32⟩
  | .hbm, ⟨9, _⟩ => ⟨S65534x1024, .f32⟩
  | .hbm, ⟨10, _⟩ => ⟨S65534x1024, .f32⟩
  | .hbm, ⟨11, _⟩ => ⟨S_, .f32⟩
  | .hbm, ⟨12, _⟩ => ⟨S65534x1024, .f32⟩
  | .hbm, ⟨13, _⟩ => ⟨S65534x1024, .f32⟩
  | .hbm, ⟨14, _⟩ => ⟨S65534x1024, .f32⟩
  | .hbm, ⟨15, _⟩ => ⟨S1x1024, .f32⟩
  | .hbm, ⟨16, _⟩ => ⟨S1x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.KernelIdeal.Protocol.lean ====
/- The halo exchange of the stencil kernel: who signals whom, what each cell hands over.

   The eight devices form a ring. Device `c` keeps rows `8192 c … 8192 c + 8191` of the array and needs
   the last row of the device before it (`left c`) and the first row of the one after it (`right c`). It

     * signals the barrier cell of `left c`, handing it slot 0 of its halo buffer (which `left c` will write), and the
       one of `right c`, handing it slot 1;
     * waits for 2 on its own barrier cell, and so receives slot 1 of `left c` and slot 0 of `right c`;
     * copies its first 8 rows into slot 1 of `left c` and its last 8 rows into slot 0 of `right c`;
     * later waits on its two send cells (its rows come back) and its two receive cells (slot 0 holds the last
       8 rows of `left c`, slot 1 the first 8 rows of `right c`).

   Each cell has one round. The barrier's round has two duties of one unit (`true`: paid by the device after,
   `false`: by the one before); a send or receive cell's round has the single duty `false`, of a transfer's credit. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Frame
public import Idealize.ShloMosaic.Lib.Pipeline.Kit
public import Idealize.ShloMosaic.Lib.Pipeline.Value
public import Idealize.ShloMosaic.Lib.Pointwise
public import Idealize.ShloMosaic.Lib.Tactic

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own rounds, the ring's rounds, and counters for the local transfers -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans embR

/-! ## The ring -/

set_option backward.proofsInPublic true in
def right (c : Dev nD) : Dev nD := ⟨(c.val + 1) % 8, Nat.mod_lt _ (by decide)⟩
set_option backward.proofsInPublic true in
def left (c : Dev nD) : Dev nD := ⟨(c.val + 7) % 8, Nat.mod_lt _ (by decide)⟩
theorem left_right (c : Dev nD) : left (right c) = c := by revert c; decide
theorem right_left (c : Dev nD) : right (left c) = c := by revert c; decide

theorem dev1_eq (c : Dev nD) : (⟨k0_dev1 c, k0_dev1_lt c⟩ : Dev nD) = left c := by revert c; decide
theorem dev2_eq (c : Dev nD) : (⟨k0_dev2 c, k0_dev2_lt c⟩ : Dev nD) = right c := by revert c; decide
theorem dev3_eq (c : Dev nD) : (⟨k0_dev3 c, k0_dev3_lt c⟩ : Dev nD) = left c := by revert c; decide
theorem dev4_eq (c : Dev nD) : (⟨k0_dev4 c, k0_dev4_lt c⟩ : Dev nD) = right c := by revert c; decide

/-! ## Buffers, slots, cells -/

abbrev xM : Memref sig .tc .hbm S8192x1024 .f32 := Memref.whole main_arg0
abbrev haloM : Memref sig .tc .vmem S2x8x1024 .f32 := Memref.whole cc0_scratch0

/-- Slot 0 of the halo buffer: the rows of the device before. -/
abbrev slot0 : Memref sig .tc .vmem S8x1024 .f32 :=
  (haloM.slice (Rect.unit (s := S2x8x1024) ![0, 0, 0] S1x8x1024.size inb_S2x8x1024_S1x8x1024_0_0_0) (fun _ => rfl)).squeeze S8x1024 squeezes_S1x8x1024_S8x1024
/-- Slot 1: the rows of the device after. -/
abbrev slot1 : Memref sig .tc .vmem S8x1024 .f32 :=
  (haloM.slice (Rect.unit (s := S2x8x1024) ![1, 0, 0] S1x8x1024.size inb_S2x8x1024_S1x8x1024_1_0_0) (fun _ => rfl)).squeeze S8x1024 squeezes_S1x8x1024_S8x1024
/-- The first 8 rows of the device's block, and the last 8. -/
abbrev topM : Memref sig .tc .hbm S8x1024 .f32 :=
  xM.slice (Rect.unit (s := S8192x1024) ![0, 0] S8x1024.size inb_S8192x1024_S8x1024_0_0) (fun _ => rfl)
abbrev botM : Memref sig .tc .hbm S8x1024 .f32 :=
  xM.slice (Rect.unit (s := S8192x1024) ![8184, 0] S8x1024.size inb_S8192x1024_S8x1024_8184_0) (fun _ => rfl)

abbrev barS : Sem sig := (SemArray.scalar (sig.barrier 0 rfl) : Sems sig S_).sem
/-- The cells, by number: the barrier, the send to the left and to the right, the receipt into slot 0 and into slot 1. -/
abbrev cellSem : Fin 5 → SemLoc sig
  | 0 => .reg barS | 1 => .dma ⟨5, by decide⟩ | 2 => .dma ⟨6, by decide⟩ | 3 => .dma ⟨7, by decide⟩ | 4 => .dma ⟨8, by decide⟩
abbrev cell (c : Dev nD) (k : Fin 5) : GSem nD τ sig := ((c : Thread nD τ), cellSem k)

/-- A transfer of 8 rows, in credit. -/
abbrev N : ℕ := slot0.view.dmaCredit
theorem N_pos : 0 < N := View.dmaCredit_pos _ (by decide)

/-! ## Contents -/

variable (m : (ℓ : Loc nD τ sig) → Buf (Elt F) ℓ)

/-- Device `c`'s block of the argument. -/
def blk (c : Dev nD) : Buf (Elt F) ((c : Thread nD τ).loc main_arg0) := m ((c : Thread nD τ).loc main_arg0)

/-- Row `r` of an array of 8192 rows, at lane `l`. -/
def row (X : S8192x1024.Idx → Elt F .f32) (r : ℕ) (l : Fin 1024) : Elt F .f32 := X (ix2 ⟨r % 8192, Nat.mod_lt _ (by decide)⟩ l)

/-- The halo buffer after the exchange. -/
def haloBuf (c : Dev nD) : Buf (Elt F) ((c : Thread nD τ).loc cc0_scratch0) := fun (i : S2x8x1024.Idx) =>
  if (i 0).val = 0 then row (blk m (left c)) (8184 + (i 1).val) (i 2) else row (blk m (right c)) (i 1).val (i 2)

def slot0Pts (c : Dev nD) (f : Buf (Elt F) ((c : Thread nD τ).loc cc0_scratch0)) : sProp 𝕄 :=
  slot0.view.loc (c : Thread nD τ) ↦[slot0.view.set]{fullShare} f
def slot1Pts (c : Dev nD) (f : Buf (Elt F) ((c : Thread nD τ).loc cc0_scratch0)) : sProp 𝕄 :=
  slot1.view.loc (c : Thread nD τ) ↦[slot1.view.set]{fullShare} f

/-- The shares at which the two copies read the block: what the local copies leave of it, halved. -/
abbrev qTop : PosShare TreeShare := (Transfers.shareDrop fullShare 3).left
abbrev qBot : PosShare TreeShare := (Transfers.shareDrop fullShare 3).right

def topPts (c : Dev nD) : sProp 𝕄 := topM.view.loc (c : Thread nD τ) ↦[topM.view.set]{qTop} blk m c
def botPts (c : Dev nD) : sProp 𝕄 := botM.view.loc (c : Thread nD τ) ↦[botM.view.set]{qBot} blk m c

instance slot0Pts_storable (c : Dev nD) (f) : BI.Storable (upEmb : UEmb _ 𝕄) (slot0Pts (F := F) c f) := by unfold slot0Pts; infer_instance
instance slot1Pts_storable (c : Dev nD) (f) : BI.Storable (upEmb : UEmb _ 𝕄) (slot1Pts (F := F) c f) := by unfold slot1Pts; infer_instance
instance topPts_storable (c : Dev nD) : BI.Storable (upEmb : UEmb _ 𝕄) (topPts (F := F) m c) := by unfold topPts; infer_instance
instance botPts_storable (c : Dev nD) : BI.Storable (upEmb : UEmb _ 𝕄) (botPts (F := F) m c) := by unfold botPts; infer_instance

theorem haloBuf_left (c : Dev nD) (i : S2x8x1024.Idx) (k : S8192x1024.Idx) (h : (i 0).val = 0) (h0 : (k 0).val = 8184 + (i 1).val)
    (h1 : (k 1).val = (i 2).val) : haloBuf m c i = blk m (left c) k := by
  unfold haloBuf row
  rw [if_pos h]
  refine congrArg (blk m (left c)) (funext fun a => Fin.ext ?_)
  have := (k 0).isLt
  fin_cases a
  · exact (Nat.mod_eq_of_lt (h0 ▸ this)).trans h0.symm
  · exact h1.symm
theorem haloBuf_right (c : Dev nD) (i : S2x8x1024.Idx) (k : S8192x1024.Idx) (h : (i 0).val ≠ 0) (h0 : (k 0).val = (i 1).val)
    (h1 : (k 1).val = (i 2).val) : haloBuf m c i = blk m (right c) k := by
  unfold haloBuf row
  rw [if_neg h]
  refine congrArg (blk m (right c)) (funext fun a => Fin.ext ?_)
  have := (k 0).isLt
  fin_cases a
  · exact (Nat.mod_eq_of_lt (h0 ▸ this)).trans h0.symm
  · exact h1.symm

/-- Slot 0 then holds the last 8 rows of the device before; slot 1 the first 8 of the device after. -/
theorem read_slot0 (c : Dev nD) : slot0.view.read (Elt F) (haloBuf m c) = botM.view.read (Elt F) (blk m (left c)) := by
  funext j
  rw [Memref.read_squeeze_slice haloM _ _ _ (by decide)]
  idx_vars j
  pointwise
  rw [View.readAt_rect, View.read_apply, View.read_apply, cast_eq, cast_eq]
  refine haloBuf_left m c _ _ ?_ ?_ ?_
  · rfl
  · change 8184 + 1 * j0.val = 8184 + (0 + 1 * j0.val); omega
  · rfl
theorem read_slot1 (c : Dev nD) : slot1.view.read (Elt F) (haloBuf m c) = topM.view.read (Elt F) (blk m (right c)) := by
  funext j
  rw [Memref.read_squeeze_slice haloM _ _ _ (by decide)]
  idx_vars j
  pointwise
  rw [View.readAt_rect, View.read_apply, View.read_apply, cast_eq, cast_eq]
  refine haloBuf_right m c _ _ ?_ ?_ ?_
  · exact Nat.one_ne_zero
  · rfl
  · rfl

/-- A buffer that reads `w` through a view is, on that view's elements, any buffer over which `w` was written. -/
theorem pointsTo_written {sp : Space} {s : Shape} {e : EltTy} {t : Thread nD τ} (v : View sig t.2.kind sp s e)
    (q : PosShare TreeShare) (f g : Buf (Elt F) (v.loc t)) (w : s.Idx → Elt F e) (h : v.read (Elt F) g = w) :
    (v.loc t ↦[v.set]{q} v.write (Elt F) f w Finset.univ : sProp 𝕄) = v.loc t ↦[v.set]{q} g := by
  refine pointsTo_congr fun i hi => ?_
  obtain ⟨y, rfl⟩ := View.exists_emb_of_mem_set v hi
  subst h
  rw [View.write_read_eq_piecewise]
  exact Finset.piecewise_eq_of_mem _ _ _ hi

/-! ## The schedule -/

/-- What the barrier of `d` receives: from the device after, slot 0 of that device; from the one before, its slot 1. -/
def leaveR (d : Dev nD) : sProp 𝕄 := iprop((∃ f, slot0Pts (right d) f) ∗ reached ER (cell (right d) 3) 0)
def leaveL (d : Dev nD) : sProp 𝕄 := iprop((∃ f, slot1Pts (left d) f) ∗ reached ER (cell (left d) 4) 0)

def ringRd : Rounds.Schedule (GSem nD τ sig) Bool 𝕄 where
  duties g r := if r = 0 ∧ g.1.2 = .tc then (match g.2 with | .reg _ => Finset.univ | .dma q => if 5 ≤ q.val then {false} else ∅) else ∅
  unitless _ := False
  amount g _ _ := match g.2 with | .reg _ => 1 | .dma _ => N
  payload g _ d := match g.2 with
    | .reg _ => if d then leaveR g.1.1 else leaveL g.1.1
    | .dma q => if q.val = 5 then topPts m g.1.1 else if q.val = 6 then botPts m g.1.1
        else if q.val = 7 then slot0Pts g.1.1 (haloBuf m g.1.1) else slot1Pts g.1.1 (haloBuf m g.1.1)
  amount_pos g _ _ _ := by rcases g with ⟨_, _ | _⟩ <;> [exact Nat.one_pos; exact N_pos]

instance ringRd_payload_storable (g : GSem nD τ sig) (r : ℕ) (d : Bool) :
    BI.Storable (upEmb : UEmb _ 𝕄) ((ringRd (F := F) m).payload g r d) := by
  rcases g with ⟨t, s | q⟩
  · show BI.Storable upEmb (if d then leaveR t.1 else leaveL t.1)
    unfold leaveR leaveL
    split <;> infer_instance
  · show BI.Storable upEmb (if q.val = 5 then topPts m t.1 else if q.val = 6 then botPts m t.1
        else if q.val = 7 then slot0Pts t.1 (haloBuf m t.1) else slot1Pts t.1 (haloBuf m t.1))
    (repeat' split) <;> infer_instance

section Sched
variable (c : Dev nD)

theorem duties_bar : (ringRd (F := F) m).duties (cell c 0) 0 = Finset.univ := rfl
theorem duties_xfer (k : Fin 5) (hk : k ≠ 0) : (ringRd (F := F) m).duties (cell c k) 0 = {false} := by
  fin_cases k <;> first | exact absurd rfl hk | rfl
theorem duties_later (g : GSem nD τ sig) : ∀ r, 1 ≤ r → (ringRd (F := F) m).duties g r = ∅ :=
  fun r hr => if_neg fun h => by omega

theorem amount_bar (d : Bool) : (ringRd (F := F) m).amount (cell c 0) 0 d = 1 := rfl
theorem amount_xfer (k : Fin 5) (hk : k ≠ 0) (d : Bool) : (ringRd (F := F) m).amount (cell c k) 0 d = N := by
  fin_cases k <;> first | exact absurd rfl hk | rfl

theorem expect_bar : (ringRd (F := F) m).expect (cell c 0) 0 = 2 := by
  unfold Schedule.expect Schedule.amountOf
  rw [duties_bar]; rfl
theorem expect_xfer (k : Fin 5) (hk : k ≠ 0) : (ringRd (F := F) m).expect (cell c k) 0 = N := by
  unfold Schedule.expect Schedule.amountOf; rw [duties_xfer m c k hk, Finset.sum_singleton, amount_xfer m c k hk]

theorem payload_bar_true : (ringRd (F := F) m).payload (cell c 0) 0 true = leaveR c := rfl
theorem payload_bar_false : (ringRd (F := F) m).payload (cell c 0) 0 false = leaveL c := rfl
theorem payload_1 (d : Bool) : (ringRd (F := F) m).payload (cell c 1) 0 d = topPts m c := rfl
theorem payload_2 (d : Bool) : (ringRd (F := F) m).payload (cell c 2) 0 d = botPts m c := rfl
theorem payload_3 (d : Bool) : (ringRd (F := F) m).payload (cell c 3) 0 d = slot0Pts c (haloBuf m c) := rfl
theorem payload_4 (d : Bool) : (ringRd (F := F) m).payload (cell c 4) 0 d = slot1Pts c (haloBuf m c) := rfl

theorem rest_bar : bigSep ((ringRd (F := F) m).duties (cell c 0) 0 \ ∅) (fun d => (ringRd (F := F) m).payload (cell c 0) 0 d) = iprop(leaveL c ∗ leaveR c) := by
  rw [Finset.sdiff_empty, duties_bar, bigSep_univ_eq_bigSepL [false, true] (by decide) (by decide), bigSepL_cons_cons, bigSepL_singleton]
  rfl
theorem rest_xfer (k : Fin 5) (hk : k ≠ 0) :
    bigSep ((ringRd (F := F) m).duties (cell c k) 0 \ ∅) (fun d => (ringRd (F := F) m).payload (cell c k) 0 d)
      = (ringRd (F := F) m).payload (cell c k) 0 false := by
  rw [Finset.sdiff_empty, duties_xfer m c k hk, bigSep_singleton]

end Sched

/-! ## What a device owes at launch, and the levels -/

/-- Device `c` owes its two copies' credit and its two signals' units; its actions pay the summands from the last to the first. -/
def owe1 (c : Dev nD) : CellTallies nD τ sig Unit := tallyAt (cell (right c) 3) () N
def owe2 (c : Dev nD) : CellTallies nD τ sig Unit := owe1 c + tallyAt (cell (left c) 4) () N
def owe3 (c : Dev nD) : CellTallies nD τ sig Unit := owe2 c + tallyAt (cell (right c) 0) () 1
def owe4 (c : Dev nD) : CellTallies nD τ sig Unit := owe3 c + tallyAt (cell (left c) 0) () 1

def L (g : GSem nD τ sig) : Finset Unit := if g.1.2 = .tc then {()} else ∅
/-- Barriers below receipts; everything else at the bottom. -/
def lv (g : GSem nD τ sig) (_ : Unit) : ℕ := match g.2 with | .reg _ => 1 | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owe2_pos {c : Dev nD} {g : GSem nD τ sig} {u : Unit} (h : 0 < owe2 c g u) : g = cell (right c) 3 ∨ g = cell (left c) 4 := by
  by_contra hn
  rw [not_or] at hn
  unfold owe2 owe1 at h
  rw [Pi.add_apply, Finsupp.add_apply, tallyAt_apply, tallyAt_apply, if_neg (fun e => hn.1 e.1), if_neg (fun e => hn.2 e.1)] at h
  exact Nat.lt_irrefl 0 h

/-- A device may wait on its barrier while it owes its two copies: they are receipts, above every barrier. -/
theorem mayWait_bar (c : Dev nD) : (levAts L lv : sProp 𝕄) ⊢ MayWait (c : Thread nD τ) (.reg barS) () (owe2 c) :=
  MayOwe.of_cut (L := L) (lev := lv) 1 (fun p hp => by rw [Finset.mem_singleton.mp hp, L_tc]; exact Finset.mem_singleton_self _)
    (fun g u hg => by rcases owe2_pos hg with rfl | rfl <;> exact Finset.mem_singleton_self _)
    (fun p hp => by rw [Finset.mem_singleton.mp hp]; exact le_refl 1)
    (fun g u hg => by rcases owe2_pos hg with rfl | rfl <;> exact Nat.lt_succ_self 1)

/-! ## What every device knows, and what each one holds -/

/-- Every cell's invariant, and that it has reached its round. -/
def known (K : Dev nD × Fin 5 → ℕ) : sProp 𝕄 :=
  bigSep Finset.univ fun ck : Dev nD × Fin 5 => iprop(cellInv ER (ringRd m) (K ck) (cell ck.1 ck.2) ∗ reached ER (cell ck.1 ck.2) 0)

instance known_persistent (K : Dev nD × Fin 5 → ℕ) : BI.Persistent (known (F := F) m K) := by unfold known; infer_instance

theorem known_at (K : Dev nD × Fin 5 → ℕ) (c : Dev nD) (k : Fin 5) :
    known (F := F) m K ⊢ iprop(cellInv ER (ringRd m) (K (c, k)) (cell c k) ∗ reached ER (cell c k) 0) := by
  unfold known
  rw [bigSep_univ_at _ (c, k)]
  iintro ⟨H, -⟩
  iexact H

/-- Device `c`'s place at its own five cells. -/
def places (c : Dev nD) : sProp 𝕄 := bigSep Finset.univ fun k : Fin 5 => atPos ER (cell c k) 0 ∅ 0

/-- The duties device `c` pays: the two signals, the two receipts, its own two sends. -/
def duesOf (c : Dev nD) : sProp 𝕄 :=
  iprop(dutyTok ER (cell (left c) 0) 0 true ∗ dutyTok ER (cell (right c) 0) 0 false ∗ dutyTok ER (cell (right c) 3) 0 false
    ∗ dutyTok ER (cell (left c) 4) 0 false ∗ dutyTok ER (cell c 1) 0 false ∗ dutyTok ER (cell c 2) 0 false)

def ghost (K : Dev nD × Fin 5 → ℕ) (c : Dev nD) : sProp 𝕄 := iprop(known m K ∗ places c ∗ duesOf c)

/-- The counters of the five cells of the local copies, all zero. -/
def locals0 (c : Dev nD) : sProp 𝕄 :=
  iprop(semVal ((c : Thread nD τ), .dma ⟨0, by decide⟩) 0 ∗ semVal ((c : Thread nD τ), .dma ⟨1, by decide⟩) 0 ∗ semVal ((c : Thread nD τ), .dma ⟨2, by decide⟩) 0
    ∗ semVal ((c : Thread nD τ), .dma ⟨3, by decide⟩) 0 ∗ semVal ((c : Thread nD τ), .dma ⟨4, by decide⟩) 0)

end Cert.KernelIdeal.Halo

end
-- ==== Proof.KernelIdeal.Steps.lean ====
/- The two buffers several parties hold at once, cut up and put together again — the block of the argument, read by
   up to five copies at a time, and the halo buffer, a slot of which each neighbour writes — and the rules of the
   two copies to the neighbours and of the four waits on them. -/
module

public import proofs.«01_k».proof.Proof.KernelIdeal.Protocol
public import Idealize.ShloMosaic.Lib.Pipeline.ValueKit

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The halo buffer and its slots -/

theorem mem_slot0 (i : S2x8x1024.Idx) : i ∈ slot0.view.set ↔ (i 0).val = 0 := by
  rw [Memref.set_view_squeeze]
  refine ValueKit.mem_set_slice_whole_iff cc0_scratch0 _ i ?_
  rw [Rect.mem_set_unit]
  have h0 : (i 0).val < 2 := (i 0).isLt; have h1 : (i 1).val < 8 := (i 1).isLt; have h2 : (i 2).val < 1024 := (i 2).isLt
  constructor
  · intro h; have := h 0; simp at this; omega
  · intro h a; fin_cases a <;> simp <;> omega
theorem mem_slot1 (i : S2x8x1024.Idx) : i ∈ slot1.view.set ↔ (i 0).val ≠ 0 := by
  rw [Memref.set_view_squeeze]
  refine ValueKit.mem_set_slice_whole_iff cc0_scratch0 _ i ?_
  rw [Rect.mem_set_unit]
  have h0 : (i 0).val < 2 := (i 0).isLt; have h1 : (i 1).val < 8 := (i 1).isLt; have h2 : (i 2).val < 1024 := (i 2).isLt
  constructor
  · intro h; have := h 0; simp at this; omega
  · intro h a; fin_cases a <;> simp <;> omega
theorem slot1_eq : (Finset.univ \ slot0.view.set : Finset S2x8x1024.Idx) = slot1.view.set := by
  ext i; rw [Finset.mem_sdiff, mem_slot0, mem_slot1]; simp

theorem halo_slots (c : Dev nD) (f : Buf (Elt F) ((c : Thread nD τ).loc cc0_scratch0)) :
    (((c : Thread nD τ).loc cc0_scratch0) ↦{fullShare} f : sProp 𝕄) ⊣⊢ iprop(slot0Pts c f ∗ slot1Pts c f) := by
  unfold slot0Pts slot1Pts
  rw [← slot1_eq]
  exact pointsTo_split_subset (Finset.subset_univ _)

/-! ## The block's shares -/

/-- The elements of the block the two copies to the neighbours do not read, at those copies' shares. -/
def xRest (c : Dev nD) : sProp 𝕄 :=
  iprop((((c : Thread nD τ).loc main_arg0) ↦[Finset.univ \ topM.view.set]{qTop} blk m c)
    ∗ (((c : Thread nD τ).loc main_arg0) ↦[Finset.univ \ botM.view.set]{qBot} blk m c))

/-- The share of the block the local copy on cell `i` reads. -/
def xTok (c : Dev nD) (i : ℕ) : sProp 𝕄 := (Memref.whole main_arg0).view.loc (c : Thread nD τ) ↦{Transfers.shareTokN fullShare i} blk m c

theorem x_shares (c : Dev nD) :
    (((c : Thread nD τ).loc main_arg0) ↦{fullShare} blk m c : sProp 𝕄)
      ⊣⊢ iprop((topPts m c ∗ botPts m c ∗ xRest m c) ∗ xTok m c 0 ∗ xTok m c 1 ∗ xTok m c 2) := by
  have h : (((c : Thread nD τ).loc main_arg0) ↦{fullShare} blk m c : sProp 𝕄)
      ⊣⊢ iprop((((c : Thread nD τ).loc main_arg0) ↦{Transfers.shareDrop fullShare 3} blk m c) ∗ xTok m c 0 ∗ xTok m c 1 ∗ xTok m c 2) := by
    have h := Transfers.pointsTo_toks_range (ℓ := (c : Thread nD τ).loc main_arg0) (S := Finset.univ) (f := blk m c) (Ix := Unit) (Name := ℕ) (U := UU) (Lvl := ℕ) fullShare 3
    rw [bigSep_eq_bigSepL_of_eq [0, 1, 2] (by decide) (by decide), bigSepL_cons_cons, bigSepL_cons_cons, bigSepL_singleton] at h
    exact h
  have h2 := pointsTo_share (ℓ := (c : Thread nD τ).loc main_arg0) (I := Finset.univ) (f := blk m c) (Ix := Unit) (Name := ℕ) (U := UU) (Lvl := ℕ) (PosShare.mem_left_op_right (Transfers.shareDrop fullShare 3))
  have h3 := pointsTo_split_subset (ℓ := (c : Thread nD τ).loc main_arg0) (q := qTop) (f := blk m c) (Ix := Unit) (Name := ℕ) (U := UU) (Lvl := ℕ) (Finset.subset_univ topM.view.set)
  have h4 := pointsTo_split_subset (ℓ := (c : Thread nD τ).loc main_arg0) (q := qBot) (f := blk m c) (Ix := Unit) (Name := ℕ) (U := UU) (Lvl := ℕ) (Finset.subset_univ botM.view.set)
  unfold topPts botPts xRest
  constructor
  · iintro H
    ihave H := h.1 $$ H
    icases H with ⟨H, H0, H1, H2⟩
    ihave H := h2.1 $$ H
    icases H with ⟨HT, HB⟩
    ihave HT := h3.1 $$ HT
    ihave HB := h4.1 $$ HB
    icases HT with ⟨HT, HT'⟩
    icases HB with ⟨HB, HB'⟩
    isplitl [HT HT' HB HB']
    · isplitl [HT]; · iexact HT
      isplitl [HB]; · iexact HB
      isplitl [HT'] <;> iassumption
    isplitl [H0]; · iexact H0
    isplitl [H1] <;> iassumption
  · iintro ⟨⟨HT, HB, HT', HB'⟩, H0, H1, H2⟩
    iapply h.2
    isplitr [H0 H1 H2]
    · iapply h2.2
      isplitl [HT HT']
      · iapply h3.2; isplitl [HT] <;> iassumption
      · iapply h4.2; isplitl [HB] <;> iassumption
    · isplitl [H0]; · iexact H0
      isplitl [H1] <;> iassumption

/-! ## The copies to the neighbours -/

section Copies
variable (K : Dev nD × Fin 5 → ℕ) (c : Dev nD)

/-- The first 8 rows, to slot 1 of the device before. -/
theorem wp_send_left (n : Dev nD) (hn : n = left c) {hsc : slot1.view.ref.isScScratch = false}
    {hsrc : topM.view.WordExact} {hdst : slot1.view.WordExact}
    {hsem : DmaTarget.Typed .hbm (.dma ⟨8, by decide⟩) (.remote (Dev.tc n : Thread nD τ) slot1 (.dma ⟨5, by decide⟩) hsc)}
    {α : Type} {Q : α → sProp 𝕄} {k : PUnit → Prog (TpuEff nD τ sig (Elt F) Λ₀ .tc) α}
    (fn : Buf (Elt F) ((left c : Thread nD τ).loc cc0_scratch0)) (W : Waits sig Unit) :
    iprop(known m K ∗ topPts m c ∗ slot1Pts (left c) fn ∗ owes (c : Thread nD τ) (owe2 c) W
        ∗ dutyTok ER (cell c 1) 0 false ∗ dutyTok ER (cell (left c) 4) 0 false)
      ⊢ iprop(((cred (tallyAt (cell c 1) () N) ∗ owes (c : Thread nD τ) (owe1 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma topM (.remote (Dev.tc n : Thread nD τ) slot1 (.dma ⟨5, by decide⟩) hsc) (.dma ⟨8, by decide⟩) hsrc hdst hsem) k) Q) := by
  subst hn
  iintro ⟨#HK, Hx, Hs, HO, Ht, Ht'⟩
  ihave HA := (known_at m K c 1) $$ HK
  ihave HB := (known_at m K (left c) 4) $$ HK
  icases HA with ⟨#HI, #HR⟩
  icases HB with ⟨#HI', #HR'⟩
  unfold topPts slot1Pts
  iapply (Rounds.wp_send_pointsTo 𝒱₀ ER (ringRd m) (c : Thread nD τ) none (κ₁ := K (c, 1)) (κ₂ := K (left c, 4))
    (r₁ := 0) (r₂ := 0) (d₁ := false) (d₂ := false) (fd := fn)
    (Finset.mem_singleton_self _) (Finset.mem_singleton_self _)
    () () N rfl rfl rfl (owe1 c) rfl (W := W)
    (by rw [payload_1]; exact BI.Entails.refl _)
    (by rw [payload_4]; unfold slot1Pts
        rw [← pointsTo_written (t := (left c : Thread nD τ)) slot1.view fullShare fn (haloBuf m (left c)) _ ((read_slot1 m (left c)).trans (by rw [right_left]))]))
  isplitr; · iexact HI
  isplitr; · iexact HI'
  isplitl [Hx]; · iexact Hx
  isplitl [Hs]; · iexact Hs
  isplitl [HO]; · iexact HO
  isplitl [Ht]; · iexact Ht
  isplitr; · iexact HR
  isplitl [Ht']; · iexact Ht'
  iexact HR'

/-- The last 8 rows, to slot 0 of the device after. -/
theorem wp_send_right (n : Dev nD) (hn : n = right c) {hsc : slot0.view.ref.isScScratch = false}
    {hsrc : botM.view.WordExact} {hdst : slot0.view.WordExact}
    {hsem : DmaTarget.Typed .hbm (.dma ⟨7, by decide⟩) (.remote (Dev.tc n : Thread nD τ) slot0 (.dma ⟨6, by decide⟩) hsc)}
    {α : Type} {Q : α → sProp 𝕄} {k : PUnit → Prog (TpuEff nD τ sig (Elt F) Λ₀ .tc) α}
    (fn : Buf (Elt F) ((right c : Thread nD τ).loc cc0_scratch0)) (W : Waits sig Unit) :
    iprop(known m K ∗ botPts m c ∗ slot0Pts (right c) fn ∗ owes (c : Thread nD τ) (owe1 c) W
        ∗ dutyTok ER (cell c 2) 0 false ∗ dutyTok ER (cell (right c) 3) 0 false)
      ⊢ iprop(((cred (tallyAt (cell c 2) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma botM (.remote (Dev.tc n : Thread nD τ) slot0 (.dma ⟨6, by decide⟩) hsc) (.dma ⟨7, by decide⟩) hsrc hdst hsem) k) Q) := by
  subst hn
  iintro ⟨#HK, Hx, Hs, HO, Ht, Ht'⟩
  ihave HA := (known_at m K c 2) $$ HK
  ihave HB := (known_at m K (right c) 3) $$ HK
  icases HA with ⟨#HI, #HR⟩
  icases HB with ⟨#HI', #HR'⟩
  unfold botPts slot0Pts
  iapply (Rounds.wp_send_pointsTo 𝒱₀ ER (ringRd m) (c : Thread nD τ) none (κ₁ := K (c, 2)) (κ₂ := K (right c, 3))
    (r₁ := 0) (r₂ := 0) (d₁ := false) (d₂ := false) (fd := fn)
    (Finset.mem_singleton_self _) (Finset.mem_singleton_self _)
    () () N rfl rfl rfl 0 (zero_add _).symm (W := W)
    (by rw [payload_2]; exact BI.Entails.refl _)
    (by rw [payload_3]; unfold slot0Pts
        rw [← pointsTo_written (t := (right c : Thread nD τ)) slot0.view fullShare fn (haloBuf m (right c)) _ ((read_slot0 m (right c)).trans (by rw [left_right]))]))
  isplitr; · iexact HI
  isplitr; · iexact HI'
  isplitl [Hx]; · iexact Hx
  isplitl [Hs]; · iexact Hs
  isplitl [HO]; · iexact HO
  isplitl [Ht]; · iexact Ht
  isplitr; · iexact HR
  isplitl [Ht']; · iexact Ht'
  iexact HR'

/-- A wait on one of the send and receive cells, owing nothing: the cell's payload comes, and the cell closes. -/
theorem wp_wait_xfer (q : DmaSem sig) (j : Fin 5) (hj : j ≠ 0) (hq : cellSem j = .dma q) (W : Waits sig Unit)
    {sp sp' : Space} {src : Memref sig .tc sp S8x1024 .f32} {dst : Memref sig .tc sp' S8x1024 .f32} {hsrc : src.view.WordExact} {hdst : dst.view.WordExact}
    {α : Type} {Q : α → sProp 𝕄} {k : PUnit → Prog (TpuEff nD τ sig (Elt F) Λ₀ .tc) α} :
    iprop(known m K ∗ cred (tallyAt (cell c j) () N) ∗ owes (c : Thread nD τ) 0 W ∗ atPos ER (cell c j) 0 ∅ 0)
      ⊢ iprop(((owes (c : Thread nD τ) 0 (insert (SemLoc.dma q, ()) W) ∗ semVal (cell c j) 0
            ∗ (ringRd (F := F) m).payload (cell c j) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HK, Hc, HO, Hat⟩ Hk
  ihave HA := (known_at m K c j) $$ HK
  icases HA with ⟨#HI, -⟩
  have hc : cell c j = ((c : Thread nD τ), SemLoc.dma q) := by rw [← hq]
  have hN : dst.view.dmaCredit = N := rfl
  iapply (Rounds.wp_wait_rest_token 𝒱₀ ER (ringRd m) (c : Thread nD τ) none (κ := K (c, j))
      (wpE_waitDma2_eq 𝒱₀ (c : Thread nD τ) none Set.univ) (Set.mem_univ _) () (O := 0) (W := W) (R := 0) (m := 0) (T := ∅)
      (by rw [Nat.zero_add, hN, ← hc, expect_xfer m c j hj])) $$ [Hc HO Hat]
  · rw [← hc]
    isplitr; · iexact HI
    isplitl [Hc]; · iexact Hc
    isplitl [HO]; · iexact HO
    isplitr; · rw [MayWait_zero]; iempintro
    iexact Hat
  rw [← hc]
  iintro ⟨HO, Hat, -, Hpay⟩
  imod (Rounds.cell_close ER (ringRd m) (Set.mem_univ (K (c, j))) (fun h => h) (R := 0 + 1) (duties_later m (cell c j))) $$ [Hat] with Hz
  · isplitr; · iexact HI
    iexact Hat
  iapply Hk
  isplitl [HO]; · iexact HO
  isplitl [Hz]; · iexact Hz
  iapply (Entails.of_eq (rest_xfer m c j hj)); iexact Hpay

end Copies

end Cert.KernelIdeal.Halo

end
-- ==== Proof.KernelIdeal.Value.lean ====
/- What the body's buffers hold: the chunks read from the block, and the rows of the stencil written from them. -/
module

public import proofs.«01_k».proof.Proof.KernelIdeal.Steps

@[expose] public section

set_option maxRecDepth 16384

noncomputable section

namespace Cert.KernelIdeal.Halo

open Cert.KernelIdeal Cert.KernelIdeal.Gen

open Idealize.ShloMosaic
open Idealize.ShloMosaic.TcCoe Idealize.ShloMosaic.Tactic

variable {F : FTy → Type} [FloatOps F]

variable (m : (ℓ : Loc nD τ sig) → Buf (Elt F) ℓ)

/-- A row strictly inside the block, as the body computes it: half the row and a quarter of the sum of its neighbours. -/
def inner (a b d : Elt F .f32) : Elt F .f32 :=
  FloatOps.addf (FloatOps.mulf (FloatOps.ofBits .f32 0x3F000000#32) b) (FloatOps.mulf (FloatOps.ofBits .f32 0x3E800000#32) (FloatOps.addf a d))

/-- A row at the block's border, one neighbour of which came from another device. -/
def edge (a b d : Elt F .f32) : Elt F .f32 :=
  FloatOps.addf (FloatOps.addf (FloatOps.mulf (FloatOps.ofBits .f32 0x3E800000#32) a) (FloatOps.mulf (FloatOps.ofBits .f32 0x3F000000#32) b))
    (FloatOps.mulf (FloatOps.ofBits .f32 0x3E800000#32) d)

theorem pay1_apply (a b d : Vec F S1x2048x1024 .f32) (j : S1x2048x1024.Idx) : k0_pay1 b a d j = inner (a j) (b j) (d j) := by
  unfold k0_pay1 inner
  idx_vars j
  pointwise
  have h : j0 = 0 := Subsingleton.elim _ _
  rw [h]

/-- Writing through a view what another buffer reads there leaves that buffer's contents on the view's elements. -/
theorem write_read_apply {κ : Kind} {sp : Space} {sh : Shape} {e : EltTy} (v : View sig κ sp sh e) (g f : v.ty.Contents (Elt F)) (i : v.ty.Idx)
    (P : Prop) [Decidable P] (h : i ∈ v.set ↔ P) : v.write (Elt F) g (v.read (Elt F) f) Finset.univ i = if P then f i else g i := by
  rw [View.write_read_eq_piecewise]
  by_cases hP : P
  · rw [if_pos hP]; exact Finset.piecewise_eq_of_mem _ _ _ (h.2 hP)
  · rw [if_neg hP]; exact Finset.piecewise_eq_of_notMem _ _ _ (fun h' => hP (h.1 h'))

/-- A row at its number, told by coordinates. -/
theorem row_eq (X : S8192x1024.Idx → Elt F .f32) (r : ℕ) (l : Fin 1024) (k : S8192x1024.Idx) (h0 : (k 0).val = r) (h1 : k 1 = l) : row X r l = X k := by
  unfold row
  refine congrArg X (funext fun a => Fin.ext ?_)
  have hk : (k 0).val < 8192 := (k 0).isLt
  fin_cases a
  · exact (Nat.mod_eq_of_lt (h0 ▸ hk)).trans h0.symm
  · exact congrArg Fin.val h1.symm

theorem drop_2048 (f : S1x2048x1024.Idx → Elt F .f32) (h) (j : S2048x1024.Idx) : shapeCast S2048x1024 (s := S1x2048x1024) f h j = f (ix3 0 (j 0) (j 1)) := by
  idx_vars j
  pointwise
theorem drop_2056 (f : S1x2056x1024.Idx → Elt F .f32) (h) (j : S2056x1024.Idx) : shapeCast S2056x1024 (s := S1x2056x1024) f h j = f (ix3 0 (j 0) (j 1)) := by
  idx_vars j
  pointwise
theorem drop_2064 (f : S1x2064x1024.Idx → Elt F .f32) (h) (j : S2064x1024.Idx) : shapeCast S2064x1024 (s := S1x2064x1024) f h j = f (ix3 0 (j 0) (j 1)) := by
  idx_vars j
  pointwise

theorem write_cin_2056 (b s k : ℕ) (inb) (hp) (hq) (inb') (hp') (c : Dev nD) (g : Buf (Elt F) ((c : Thread nD τ).loc cc0_scratch1)) (i : S3x2064x1024.Idx) :
    View.write (Elt F) (((Memref.whole cc0_scratch1).slice (Rect.unit (s := S3x2064x1024) ![b, s, 0] S1x2056x1024.size inb) hp).squeeze S2056x1024 hq).view g
        (ReadAs.same.apply (View.read (Elt F) ((Memref.whole main_arg0).slice (Rect.unit (s := S8192x1024) ![k, 0] S2056x1024.size inb') hp').view (blk m c))) Finset.univ i
      = if (i 0).val = b ∧ s ≤ (i 1).val ∧ (i 1).val < s + 2056 then row (blk m c) (k + ((i 1).val - s)) (i 2) else g i := by
  have hset : i ∈ (((Memref.whole cc0_scratch1).slice (Rect.unit (s := S3x2064x1024) ![b, s, 0] S1x2056x1024.size inb) hp).squeeze S2056x1024 hq).view.set
      ↔ ((i 0).val = b ∧ s ≤ (i 1).val ∧ (i 1).val < s + 2056) := by
    rw [Memref.set_view_squeeze]
    refine ValueKit.mem_set_slice_whole_iff cc0_scratch1 _ i ?_
    rw [Rect.mem_set_unit]
    have h0 : (i 0).val < 3 := (i 0).isLt; have h1 : (i 1).val < 2064 := (i 1).isLt; have h2 : (i 2).val < 1024 := (i 2).isLt
    constructor
    · intro h; have h0 := h 0; have h1 := h 1; simp at h0 h1; omega
    · intro h a; fin_cases a <;> simp <;> omega
  have hread : View.read (Elt F) (((Memref.whole cc0_scratch1).slice (Rect.unit (s := S3x2064x1024) ![b, s, 0] S1x2056x1024.size inb) hp).squeeze S2056x1024 hq).view
        (fun (i : S3x2064x1024.Idx) => row (blk m c) (k + ((i 1).val - s)) (i 2))
      = ReadAs.same.apply (View.read (Elt F) ((Memref.whole main_arg0).slice (Rect.unit (s := S8192x1024) ![k, 0] S2056x1024.size inb') hp').view (blk m c)) := by
    funext j
    rw [Memref.read_squeeze_slice (Memref.whole cc0_scratch1) _ _ _ (show S1x2056x1024.ShapeCasts S2056x1024 by decide)]
    rw [drop_2056, View.readAt_rect, View.read_apply, cast_eq]
    change _ = View.read (Elt F) _ _ j
    rw [View.read_apply, cast_eq]
    refine row_eq _ _ _ _ ?_ rfl
    change k + 1 * (j 0).val = k + (s + 1 * (j 0).val - s)
    omega
  rw [← hread]
  exact write_read_apply _ _ _ _ _ hset

theorem write_cin_2064 (b s k : ℕ) (inb) (hp) (hq) (inb') (hp') (c : Dev nD) (g : Buf (Elt F) ((c : Thread nD τ).loc cc0_scratch1)) (i : S3x2064x1024.Idx) :
    View.write (Elt F) (((Memref.whole cc0_scratch1).slice (Rect.unit (s := S3x2064x1024) ![b, s, 0] S1x2064x1024.size inb) hp).squeeze S2064x1024 hq).view g
        (ReadAs.same.apply (View.read (Elt F) ((Memref.whole main_arg0).slice (Rect.unit (s := S8192x1024) ![k, 0] S2064x1024.size inb') hp').view (blk m c))) Finset.univ i
      = if (i 0).val = b ∧ s ≤ (i 1).val ∧ (i 1).val < s + 2064 then row (blk m c) (k + ((i 1).val - s)) (i 2) else g i := by
  have hset : i ∈ (((Memref.whole cc0_scratch1).slice (Rect.unit (s := S3x2064x1024) ![b, s, 0] S1x2064x1024.size inb) hp).squeeze S2064x1024 hq).view.set
      ↔ ((i 0).val = b ∧ s ≤ (i 1).val ∧ (i 1).val < s + 2064) := by
    rw [Memref.set_view_squeeze]
    refine ValueKit.mem_set_slice_whole_iff cc0_scratch1 _ i ?_
    rw [Rect.mem_set_unit]
    have h0 : (i 0).val < 3 := (i 0).isLt; have h1 : (i 1).val < 2064 := (i 1).isLt; have h2 : (i 2).val < 1024 := (i 2).isLt
    constructor
    · intro h; have h0 := h 0; have h1 := h 1; simp at h0 h1; omega
    · intro h a; fin_cases a <;> simp <;> omega
  have hread : View.read (Elt F) (((Memref.whole cc0_scratch1).slice (Rect.unit (s := S3x2064x1024) ![b, s, 0] S1x2064x1024.size inb) hp).squeeze S2064x1024 hq).view
        (fun (i : S3x2064x1024.Idx) => row (blk m c) (k + ((i 1).val - s)) (i 2))
      = ReadAs.same.apply (View.read (Elt F) ((Memref.whole main_arg0).slice (Rect.unit (s := S8192x1024) ![k, 0] S2064x1024.size inb') hp').view (blk m c)) := by
    funext j
    rw [Memref.read_squeeze_slice (Memref.whole cc0_scratch1) _ _ _ (show S1x2064x1024.ShapeCasts S2064x1024 by decide)]
    rw [drop_2064, View.readAt_rect, View.read_apply, cast_eq]
    change _ = View.read (Elt F) _ _ j
    rw [View.read_apply, cast_eq]
    refine row_eq _ _ _ _ ?_ rfl
    change k + 1 * (j 0).val = k + (s + 1 * (j 0).val - s)
    omega
  rw [← hread]
  exact write_read_apply _ _ _ _ _ hset

/-! ## The chunks -/

/-- The chunk buffer when the first chunk is computed. -/
def cinA (c : Dev nD) (fi : Buf (Elt F) ((c : Thread nD τ).loc cc0_scratch1)) : Buf (Elt F) ((c : Thread nD τ).loc cc0_scratch1) :=
  View.write (Elt F) (((Memref.whole cc0_scratch1).slice (Rect.unit (s := S3x2064x1024) ![2, 8, 0] S1x2056x1024.size inb_S3x2064x1024_S1x2056x1024_2_8_0) (fun _ => rfl)).squeeze S2056x1024 squeezes_S1x2056x1024_S2056x1024).view
    (View.write (Elt F) (((Memref.whole cc0_scratch1).slice (Rect.unit (s := S3x2064x1024) ![1, 0, 0] S1x2064x1024.size inb_S3x2064x1024_S1x2064x1024_1_0_0) (fun _ => rfl)).squeeze S2064x1024 squeezes_S1x2064x1024_S2064x1024).view
      (View.write (Elt F) (((Memref.whole cc0_scratch1).slice (Rect.unit (s := S3x2064x1024) ![0, 0, 0] S1x2064x1024.size inb_S3x2064x1024_S1x2064x1024_0_0_0) (fun _ => rfl)).squeeze S2064x1024 squeezes_S1x2064x1024_S2064x1024).view fi
        (ReadAs.same.apply (View.read (Elt F) ((Memref.whole main_arg0).slice (Rect.unit (s := S8192x1024) ![2040, 0] S2064x1024.size inb_S8192x1024_S2064x1024_2040_0) (fun _ => rfl)).view (blk m c))) Finset.univ)
      (ReadAs.same.apply (View.read (Elt F) ((Memref.whole main_arg0).slice (Rect.unit (s := S8192x1024) ![4088, 0] S2064x1024.size inb_S8192x1024_S2064x1024_4088_0) (fun _ => rfl)).view (blk m c))) Finset.univ)
    (ReadAs.same.apply (View.read (Elt F) ((Memref.whole main_arg0).slice (Rect.unit (s := S8192x1024) ![0, 0] S2056x1024.size inb_S8192x1024_S2056x1024_0_0) (fun _ => rfl)).view (blk m c))) Finset.univ

/-- The chunk buffer when the others are: the last chunk has replaced the first. -/
def cinB (c : Dev nD) (fi : Buf (Elt F) ((c : Thread nD τ).loc cc0_scratch1)) : Buf (Elt F) ((c : Thread nD τ).loc cc0_scratch1) :=
  View.write (Elt F) (((Memref.whole cc0_scratch1).slice (Rect.unit (s := S3x2064x1024) ![0, 0, 0] S1x2056x1024.size inb_S3x2064x1024_S1x2056x1024_0_0_0) (fun _ => rfl)).squeeze S2056x1024 squeezes_S1x2056x1024_S2056x1024).view
    (cinA m c fi)
    (ReadAs.same.apply (View.read (Elt F) ((Memref.whole main_arg0).slice (Rect.unit (s := S8192x1024) ![6136, 0] S2056x1024.size inb_S8192x1024_S2056x1024_6136_0) (fun _ => rfl)).view (blk m c))) Finset.univ

theorem cinA_0 (c : Dev nD) (fi) (i : S3x2064x1024.Idx) (h : (i 0).val = 0) : cinA m c fi i = row (blk m c) (2040 + (i 1).val) (i 2) := by
  have h1 : (i 1).val < 2064 := (i 1).isLt
  unfold cinA
  rw [write_cin_2056, if_neg (by omega), write_cin_2064, if_neg (by omega), write_cin_2064, if_pos (by omega)]
  rfl
theorem cinB_1 (c : Dev nD) (fi) (i : S3x2064x1024.Idx) (h : (i 0).val = 1) : cinB m c fi i = row (blk m c) (4088 + (i 1).val) (i 2) := by
  have h1 : (i 1).val < 2064 := (i 1).isLt
  unfold cinB cinA
  rw [write_cin_2056, if_neg (by omega), write_cin_2056, if_neg (by omega), write_cin_2064, if_pos (by omega)]
  rfl
theorem cinB_2 (c : Dev nD) (fi) (i : S3x2064x1024.Idx) (h : (i 0).val = 2) (h8 : 8 ≤ (i 1).val) : cinB m c fi i = row (blk m c) ((i 1).val - 8) (i 2) := by
  have h1 : (i 1).val < 2064 := (i 1).isLt
  unfold cinB cinA
  rw [write_cin_2056, if_neg (by omega), write_cin_2056, if_pos (by omega), Nat.zero_add]
theorem cinB_0 (c : Dev nD) (fi) (i : S3x2064x1024.Idx) (h : (i 0).val = 0) (h2 : (i 1).val < 2056) : cinB m c fi i = row (blk m c) (6136 + (i 1).val) (i 2) := by
  have h1 : (i 1).val < 2064 := (i 1).isLt
  unfold cinB
  rw [write_cin_2056, if_pos (by omega)]
  rfl

/-! ## The rows written -/

theorem pay2_apply (a b d : Vec F S1x2048x1024 .f32) (j : S1x2048x1024.Idx) : k0_pay2 b a d j = inner (a j) (b j) (d j) := by
  unfold k0_pay2 inner
  idx_vars j
  pointwise
  have h : j0 = 0 := Subsingleton.elim _ _
  rw [h]
theorem pay7_apply (a b d : Vec F S1x2047x1024 .f32) (j : S1x2047x1024.Idx) : k0_pay7 b a d j = inner (a j) (b j) (d j) := by
  unfold k0_pay7 inner
  idx_vars j
  pointwise
  have h : j0 = 0 := Subsingleton.elim _ _
  rw [h]
theorem pay5_apply (a b d : Vec F S1x2047x1024 .f32) (j : S1x2047x1024.Idx) : k0_pay5 (k0_pay3 b) (k0_pay4 a d) j = inner (a j) (b j) (d j) := by
  unfold k0_pay5 k0_pay4 k0_pay3 inner
  idx_vars j
  pointwise
  have h : j0 = 0 := Subsingleton.elim _ _
  rw [h]
theorem pay6_apply (c : Dev nD) (a b d : Vec F S1x1x1024 .f32) (j : S1x1x1024.Idx) :
    k0_pay6 (Scalar.remsi (Scalar.divsi c.word 1#32) 8#32) a b d b j = if c.val = 0 then b j else edge (a j) (b j) (d j) := by
  have hc : Scalar.cmpi .eq (Scalar.remsi (Scalar.divsi c.word 1#32) 8#32) 0#32 = if c.val = 0 then 1#1 else 0#1 := by revert c; decide
  unfold k0_pay6 edge
  rw [hc]
  idx_vars j
  have h : j0 = 0 := Subsingleton.elim _ _
  have h' : j1 = 0 := Subsingleton.elim _ _
  subst h h'
  by_cases h0 : c.val = 0
  · rw [if_pos h0, if_pos h0]; pointwise
  · rw [if_neg h0, if_neg h0]; pointwise
theorem pay9_apply (c : Dev nD) (a b d : Vec F S1x1x1024 .f32) (j : S1x1x1024.Idx) :
    k0_pay9 (Scalar.remsi (Scalar.divsi c.word 1#32) 8#32) (k0_pay8 a) b d b j = if c.val = 7 then b j else edge (a j) (b j) (d j) := by
  have hc : Scalar.cmpi .eq (Scalar.remsi (Scalar.divsi c.word 1#32) 8#32) 7#32 = if c.val = 7 then 1#1 else 0#1 := by revert c; decide
  unfold k0_pay9 k0_pay8 edge
  rw [hc]
  idx_vars j
  have h : j0 = 0 := Subsingleton.elim _ _
  have h' : j1 = 0 := Subsingleton.elim _ _
  subst h h'
  by_cases h0 : c.val = 7
  · rw [if_pos h0, if_pos h0]; pointwise
  · rw [if_neg h0, if_neg h0]; pointwise

/-- Row `r` of device `c`'s result, at lane `l`. -/
def outAt (c : Dev nD) (r : ℕ) (l : Fin 1024) : Elt F .f32 :=
  if r = 0 then
    if c.val = 0 then row (blk m c) 0 l else edge (row (blk m (left c)) 8191 l) (row (blk m c) 0 l) (row (blk m c) 1 l)
  else if r = 8191 then
    if c.val = 7 then row (blk m c) 8191 l else edge (row (blk m c) 8190 l) (row (blk m c) 8191 l) (row (blk m (right c)) 0 l)
  else inner (row (blk m c) (r - 1) l) (row (blk m c) r l) (row (blk m c) (r + 1) l)

/-- Device `c`'s result. -/
def outBuf (c : Dev nD) : Buf (Elt F) ((c : Thread nD τ).loc main_v1) := fun (i : S8192x1024.Idx) => outAt m c (i 0).val (i 1)

theorem outAt_inner (c : Dev nD) (r : ℕ) (l : Fin 1024) (h0 : r ≠ 0) (h1 : r ≠ 8191) :
    outAt m c r l = inner (row (blk m c) (r - 1) l) (row (blk m c) r l) (row (blk m c) (r + 1) l) := by
  unfold outAt; rw [if_neg h0, if_neg h1]

theorem inner_rows (c : Dev nD) (r ra rb rd : ℕ) (l : Fin 1024) (h0 : r ≠ 0) (h1 : r ≠ 8191) (ha : ra = r - 1) (hb : rb = r) (hd : rd = r + 1) :
    inner (row (blk m c) ra l) (row (blk m c) rb l) (row (blk m c) rd l) = outAt m c r l := by
  subst ha hb hd; exact (outAt_inner m c _ l h0 h1).symm

/-- A chunk of the output buffer, read as the copy out reads it. -/
theorem read_cout (b : ℕ) (hb : b < 2) (inb) (hp) (hq) (c : Dev nD) (f : Buf (Elt F) ((c : Thread nD τ).loc cc0_scratch2)) (j : S2048x1024.Idx) :
    ReadAs.same.apply (View.read (Elt F) (((Memref.whole cc0_scratch2).slice (Rect.unit (s := S2x2048x1024) ![b, 0, 0] S1x2048x1024.size inb) hp).squeeze S2048x1024 hq).view f) j
      = View.read (Elt F) (Memref.whole cc0_scratch2).view f (ix3 ⟨b, hb⟩ (j 0) (j 1)) := by
  change View.read (Elt F) _ _ j = _
  rw [Memref.read_squeeze_slice (Memref.whole cc0_scratch2) _ _ _ (show S1x2048x1024.ShapeCasts S2048x1024 by decide), drop_2048, View.readAt_rect, View.read_apply, View.read_apply]
  refine congrArg _ (congrArg f (funext fun a => Fin.ext ?_))
  fin_cases a
  · rfl
  · change 0 + 1 * (j 0).val = (j 0).val; omega
  · change 0 + 1 * (j 1).val = (j 1).val; omega

theorem load_2048 (b s : ℕ) (inb) (c : Dev nD) (X : Buf (Elt F) ((c : Thread nD τ).loc cc0_scratch1)) (Y : ℕ → Fin 1024 → Elt F .f32)
    (hX : ∀ i : S3x2064x1024.Idx, (i 0).val = b → s ≤ (i 1).val → (i 1).val < s + 2048 → X i = Y (i 1).val (i 2)) (j : S1x2048x1024.Idx) :
    View.readAt (Elt F) (Memref.whole cc0_scratch1).view (Rect.unit (s := S3x2064x1024) ![b, s, 0] S1x2048x1024.size inb).toLoadRect X j = Y (s + (j 1).val) (j 2) := by
  have h0 : (j 0).val < 1 := (j 0).isLt
  have h1 : (j 1).val < 2048 := (j 1).isLt
  rw [View.readAt_rect, View.read_apply, cast_eq, hX _ (by change b + 1 * (j 0).val = b; omega) (by change s ≤ s + 1 * (j 1).val; omega) (by change s + 1 * (j 1).val < s + 2048; omega)]
  refine congr (congrArg Y ?_) (Fin.ext ?_)
  · change s + 1 * (j 1).val = s + (j 1).val; omega
  · change 0 + 1 * (j 2).val = (j 2).val; omega
theorem load_2047 (b s : ℕ) (inb) (c : Dev nD) (X : Buf (Elt F) ((c : Thread nD τ).loc cc0_scratch1)) (Y : ℕ → Fin 1024 → Elt F .f32)
    (hX : ∀ i : S3x2064x1024.Idx, (i 0).val = b → s ≤ (i 1).val → (i 1).val < s + 2047 → X i = Y (i 1).val (i 2)) (j : S1x2047x1024.Idx) :
    View.readAt (Elt F) (Memref.whole cc0_scratch1).view (Rect.unit (s := S3x2064x1024) ![b, s, 0] S1x2047x1024.size inb).toLoadRect X j = Y (s + (j 1).val) (j 2) := by
  have h0 : (j 0).val < 1 := (j 0).isLt
  have h1 : (j 1).val < 2047 := (j 1).isLt
  rw [View.readAt_rect, View.read_apply, cast_eq, hX _ (by change b + 1 * (j 0).val = b; omega) (by change s ≤ s + 1 * (j 1).val; omega) (by change s + 1 * (j 1).val < s + 2047; omega)]
  refine congr (congrArg Y ?_) (Fin.ext ?_)
  · change s + 1 * (j 1).val = s + (j 1).val; omega
  · change 0 + 1 * (j 2).val = (j 2).val; omega
theorem load_1 (b s : ℕ) (inb) (c : Dev nD) (X : Buf (Elt F) ((c : Thread nD τ).loc cc0_scratch1)) (Y : ℕ → Fin 1024 → Elt F .f32)
    (hX : ∀ i : S3x2064x1024.Idx, (i 0).val = b → s ≤ (i 1).val → (i 1).val < s + 1 → X i = Y (i 1).val (i 2)) (j : S1x1x1024.Idx) :
    View.readAt (Elt F) (Memref.whole cc0_scratch1).view (Rect.unit (s := S3x2064x1024) ![b, s, 0] S1x1x1024.size inb).toLoadRect X j = Y (s + (j 1).val) (j 2) := by
  have h0 : (j 0).val < 1 := (j 0).isLt
  have h1 : (j 1).val < 1 := (j 1).isLt
  rw [View.readAt_rect, View.read_apply, cast_eq, hX _ (by change b + 1 * (j 0).val = b; omega) (by change s ≤ s + 1 * (j 1).val; omega) (by change s + 1 * (j 1).val < s + 1; omega)]
  refine congr (congrArg Y ?_) (Fin.ext ?_)
  · change s + 1 * (j 1).val = s + (j 1).val; omega
  · change 0 + 1 * (j 2).val = (j 2).val; omega

theorem load_halo_0 (inb) (c : Dev nD) (j : S1x1x1024.Idx) :
    View.readAt (Elt F) (Memref.whole cc0_scratch0).view (Rect.unit (s := S2x8x1024) ![0, 7, 0] S1x1x1024.size inb).toLoadRect (haloBuf m c) j = row (blk m (left c)) 8191 (j 2) := by
  have h0 : (j 0).val < 1 := (j 0).isLt
  have h1 : (j 1).val < 1 := (j 1).isLt
  rw [View.readAt_rect, View.read_apply, cast_eq]
  unfold haloBuf
  rw [if_pos (by change 0 + 1 * (j 0).val = 0; omega)]
  refine congr (congrArg (row (blk m (left c))) ?_) (Fin.ext ?_)
  · change 8184 + (7 + 1 * (j 1).val) = 8191; omega
  · change 0 + 1 * (j 2).val = (j 2).val; omega
theorem load_halo_1 (inb) (c : Dev nD) (j : S1x1x1024.Idx) :
    View.readAt (Elt F) (Memref.whole cc0_scratch0).view (Rect.unit (s := S2x8x1024) ![1, 0, 0] S1x1x1024.size inb).toLoadRect (haloBuf m c) j = row (blk m (right c)) 0 (j 2) := by
  have h0 : (j 0).val < 1 := (j 0).isLt
  have h1 : (j 1).val < 1 := (j 1).isLt
  rw [View.readAt_rect, View.read_apply, cast_eq]
  unfold haloBuf
  rw [if_neg (by change ¬ (1 + 1 * (j 0).val = 0); omega)]
  refine congr (congrArg (row (blk m (right c))) ?_) (Fin.ext ?_)
  · change 0 + 1 * (j 1).val = 0; omega
  · change 0 + 1 * (j 2).val = (j 2).val; omega

/-- The second chunk of the result. -/
theorem chunk1 (c : Dev nD) (X : Buf (Elt F) ((c : Thread nD τ).loc cc0_scratch1)) (fc : Buf (Elt F) ((c : Thread nD τ).loc cc0_scratch2)) (hX : ∀ i : S3x2064x1024.Idx, (i 0).val = 0 → X i = row (blk m c) (2040 + (i 1).val) (i 2)) (hp) (hq) (r : Fin 2048) (l : Fin 1024) :
    ReadAs.same.apply (View.read (Elt F) (((Memref.whole cc0_scratch2).slice (Rect.unit (s := S2x2048x1024) ![0, 0, 0] S1x2048x1024.size inb_S2x2048x1024_S1x2048x1024_0_0_0) hp).squeeze S2048x1024 hq).view
      ((Memref.whole cc0_scratch2).view.writes (Elt F) fc [⟨Rect.unit (s := S2x2048x1024) ![0, 0, 0] S1x2048x1024.size inb_S2x2048x1024_S1x2048x1024_0_0_0, k0_pay1 (View.readAt (Elt F) (Memref.whole cc0_scratch1).view (Rect.unit (s := S3x2064x1024) ![0, 8, 0] S1x2048x1024.size inb_S3x2064x1024_S1x2048x1024_0_8_0).toLoadRect X) (View.readAt (Elt F) (Memref.whole cc0_scratch1).view (Rect.unit (s := S3x2064x1024) ![0, 7, 0] S1x2048x1024.size inb_S3x2064x1024_S1x2048x1024_0_7_0).toLoadRect X) (View.readAt (Elt F) (Memref.whole cc0_scratch1).view (Rect.unit (s := S3x2064x1024) ![0, 9, 0] S1x2048x1024.size inb_S3x2064x1024_S1x2048x1024_0_9_0).toLoadRect X)⟩])) (ix2 r l)
      = outAt m c (2048 + r.val) l := by
  have h0 := r.isLt
  refine (read_cout 0 (by decide) _ _ _ c _ _).trans ((View.read_writes_cons_hit_of_coords _ _ _ _ _ (ix3 (0 : Fin 1) r l) _ (by intro a; fin_cases a <;> simp [Rect.unit])).trans ((pay1_apply _ _ _ _).trans ?_))
  simp only [load_2048 _ _ _ c X (fun r l => row (blk m c) (2040 + r) l) (fun i h _ _ => hX i h)]
  exact inner_rows m c _ _ _ _ _ (by omega) (by omega) (by first | omega | (simp <;> omega)) (by first | omega | (simp <;> omega)) (by first | omega | (simp <;> omega))

/-- The third chunk of the result. -/
theorem chunk2 (c : Dev nD) (X : Buf (Elt F) ((c : Thread nD τ).loc cc0_scratch1)) (fc : Buf (Elt F) ((c : Thread nD τ).loc cc0_scratch2)) (hX : ∀ i : S3x2064x1024.Idx, (i 0).val = 1 → X i = row (blk m c) (4088 + (i 1).val) (i 2)) (L) (hp) (hq) (r : Fin 2048) (l : Fin 1024) :
    ReadAs.same.apply (View.read (Elt F) (((Memref.whole cc0_scratch2).slice (Rect.unit (s := S2x2048x1024) ![1, 0, 0] S1x2048x1024.size inb_S2x2048x1024_S1x2048x1024_1_0_0) hp).squeeze S2048x1024 hq).view
      ((Memref.whole cc0_scratch2).view.writes (Elt F) fc (⟨Rect.unit (s := S2x2048x1024) ![1, 0, 0] S1x2048x1024.size inb_S2x2048x1024_S1x2048x1024_1_0_0, k0_pay2 (View.readAt (Elt F) (Memref.whole cc0_scratch1).view (Rect.unit (s := S3x2064x1024) ![1, 8, 0] S1x2048x1024.size inb_S3x2064x1024_S1x2048x1024_1_8_0).toLoadRect X) (View.readAt (Elt F) (Memref.whole cc0_scratch1).view (Rect.unit (s := S3x2064x1024) ![1, 7, 0] S1x2048x1024.size inb_S3x2064x1024_S1x2048x1024_1_7_0).toLoadRect X) (View.readAt (Elt F) (Memref.whole cc0_scratch1).view (Rect.unit (s := S3x2064x1024) ![1, 9, 0] S1x2048x1024.size inb_S3x2064x1024_S1x2048x1024_1_9_0).toLoadRect X)⟩ :: L))) (ix2 r l)
      = outAt m c (4096 + r.val) l := by
  have h0 := r.isLt
  refine (read_cout 1 (by decide) _ _ _ c _ _).trans ((View.read_writes_cons_hit_of_coords _ _ _ _ _ (ix3 (0 : Fin 1) r l) _ (by intro a; fin_cases a <;> simp [Rect.unit])).trans ((pay2_apply _ _ _ _).trans ?_))
  simp only [load_2048 _ _ _ c X (fun r l => row (blk m c) (4088 + r) l) (fun i h _ _ => hX i h)]
  exact inner_rows m c _ _ _ _ _ (by omega) (by omega) (by first | omega | (simp <;> omega)) (by first | omega | (simp <;> omega)) (by first | omega | (simp <;> omega))

/-- The first chunk of the result, whose first row reads the halo row of the device before. -/
theorem chunk0 (c : Dev nD) (X : Buf (Elt F) ((c : Thread nD τ).loc cc0_scratch1)) (fc : Buf (Elt F) ((c : Thread nD τ).loc cc0_scratch2)) (hX : ∀ i : S3x2064x1024.Idx, (i 0).val = 2 → 8 ≤ (i 1).val → X i = row (blk m c) ((i 1).val - 8) (i 2)) (L) (hp) (hq) (r : Fin 2048) (l : Fin 1024) :
    ReadAs.same.apply (View.read (Elt F) (((Memref.whole cc0_scratch2).slice (Rect.unit (s := S2x2048x1024) ![0, 0, 0] S1x2048x1024.size inb_S2x2048x1024_S1x2048x1024_0_0_0) hp).squeeze S2048x1024 hq).view
      ((Memref.whole cc0_scratch2).view.writes (Elt F) fc (⟨Rect.unit (s := S2x2048x1024) ![0, 0, 0] S1x1x1024.size inb_S2x2048x1024_S1x1x1024_0_0_0, k0_pay6 (Scalar.remsi (Scalar.divsi c.word 1#32) 8#32) (View.readAt (Elt F) (Memref.whole cc0_scratch0).view (Rect.unit (s := S2x8x1024) ![0, 7, 0] S1x1x1024.size inb_S2x8x1024_S1x1x1024_0_7_0).toLoadRect (haloBuf m c)) (View.readAt (Elt F) (Memref.whole cc0_scratch1).view (Rect.unit (s := S3x2064x1024) ![2, 8, 0] S1x1x1024.size inb_S3x2064x1024_S1x1x1024_2_8_0).toLoadRect X) (View.readAt (Elt F) (Memref.whole cc0_scratch1).view (Rect.unit (s := S3x2064x1024) ![2, 9, 0] S1x1x1024.size inb_S3x2064x1024_S1x1x1024_2_9_0).toLoadRect X) (View.readAt (Elt F) (Memref.whole cc0_scratch1).view (Rect.unit (s := S3x2064x1024) ![2, 8, 0] S1x1x1024.size inb_S3x2064x1024_S1x1x1024_2_8_0).toLoadRect X)⟩
        :: ⟨Rect.unit (s := S2x2048x1024) ![0, 1, 0] S1x2047x1024.size inb_S2x2048x1024_S1x2047x1024_0_1_0, k0_pay5 (k0_pay3 (View.readAt (Elt F) (Memref.whole cc0_scratch1).view (Rect.unit (s := S3x2064x1024) ![2, 9, 0] S1x2047x1024.size inb_S3x2064x1024_S1x2047x1024_2_9_0).toLoadRect X)) (k0_pay4 (View.readAt (Elt F) (Memref.whole cc0_scratch1).view (Rect.unit (s := S3x2064x1024) ![2, 8, 0] S1x2047x1024.size inb_S3x2064x1024_S1x2047x1024_2_8_0).toLoadRect X) (View.readAt (Elt F) (Memref.whole cc0_scratch1).view (Rect.unit (s := S3x2064x1024) ![2, 10, 0] S1x2047x1024.size inb_S3x2064x1024_S1x2047x1024_2_10_0).toLoadRect X))⟩ :: L))) (ix2 r l)
      = outAt m c r.val l := by
  have h0 := r.isLt
  refine (read_cout 0 (by decide) _ _ _ c _ _).trans ?_
  by_cases hj : r.val = 0
  · refine (View.read_writes_cons_hit_of_coords _ _ _ _ _ (ix3 (0 : Fin 1) (0 : Fin 1) l) _ (by intro a; fin_cases a <;> simp [Rect.unit, hj])).trans ((pay6_apply c _ _ _ _).trans ?_)
    simp only [load_1 2 8 _ c X (fun r l => row (blk m c) (r - 8) l) (fun i h h8 h9 => hX i h (by omega)), load_1 2 9 _ c X (fun r l => row (blk m c) (r - 8) l) (fun i h h8 h9 => hX i h (by omega))]
    rw [load_halo_0]
    unfold outAt
    rw [if_pos hj]
    rfl
  · refine (View.read_writes_cons_miss_of_axis _ _ _ _ _ 1 0 1 rfl rfl rfl (Or.inr (by change 0 + 1 ≤ r.val; omega))).trans ((View.read_writes_cons_hit_of_coords _ _ _ _ _ (ix3 (0 : Fin 1) (⟨r.val - 1, by omega⟩ : Fin 2047) l) _ (by intro a; fin_cases a <;> simp [Rect.unit]; omega)).trans ((pay5_apply _ _ _ _).trans ?_))
    simp only [load_2047 2 9 _ c X (fun r l => row (blk m c) (r - 8) l) (fun i h h8 h9 => hX i h (by omega)), load_2047 2 8 _ c X (fun r l => row (blk m c) (r - 8) l) (fun i h h8 h9 => hX i h (by omega)), load_2047 2 10 _ c X (fun r l => row (blk m c) (r - 8) l) (fun i h h8 h9 => hX i h (by omega))]
    exact inner_rows m c _ _ _ _ _ (by omega) (by omega) (by first | omega | (simp <;> omega)) (by first | omega | (simp <;> omega)) (by first | omega | (simp <;> omega))

/-- The last chunk of the result, whose last row reads the halo row of the device after. -/
theorem chunk3 (c : Dev nD) (X : Buf (Elt F) ((c : Thread nD τ).loc cc0_scratch1)) (fc : Buf (Elt F) ((c : Thread nD τ).loc cc0_scratch2)) (hX : ∀ i : S3x2064x1024.Idx, (i 0).val = 0 → (i 1).val < 2056 → X i = row (blk m c) (6136 + (i 1).val) (i 2)) (L) (hp) (hq) (r : Fin 2048) (l : Fin 1024) :
    ReadAs.same.apply (View.read (Elt F) (((Memref.whole cc0_scratch2).slice (Rect.unit (s := S2x2048x1024) ![1, 0, 0] S1x2048x1024.size inb_S2x2048x1024_S1x2048x1024_1_0_0) hp).squeeze S2048x1024 hq).view
      ((Memref.whole cc0_scratch2).view.writes (Elt F) fc (⟨Rect.unit (s := S2x2048x1024) ![1, 2047, 0] S1x1x1024.size inb_S2x2048x1024_S1x1x1024_1_2047_0, k0_pay9 (Scalar.remsi (Scalar.divsi c.word 1#32) 8#32) (k0_pay8 (View.readAt (Elt F) (Memref.whole cc0_scratch1).view (Rect.unit (s := S3x2064x1024) ![0, 2054, 0] S1x1x1024.size inb_S3x2064x1024_S1x1x1024_0_2054_0).toLoadRect X)) (View.readAt (Elt F) (Memref.whole cc0_scratch1).view (Rect.unit (s := S3x2064x1024) ![0, 2055, 0] S1x1x1024.size inb_S3x2064x1024_S1x1x1024_0_2055_0).toLoadRect X) (View.readAt (Elt F) (Memref.whole cc0_scratch0).view (Rect.unit (s := S2x8x1024) ![1, 0, 0] S1x1x1024.size inb_S2x8x1024_S1x1x1024_1_0_0).toLoadRect (haloBuf m c)) (View.readAt (Elt F) (Memref.whole cc0_scratch1).view (Rect.unit (s := S3x2064x1024) ![0, 2055, 0] S1x1x1024.size inb_S3x2064x1024_S1x1x1024_0_2055_0).toLoadRect X)⟩
        :: ⟨Rect.unit (s := S2x2048x1024) ![1, 0, 0] S1x2047x1024.size inb_S2x2048x1024_S1x2047x1024_1_0_0, k0_pay7 (View.readAt (Elt F) (Memref.whole cc0_scratch1).view (Rect.unit (s := S3x2064x1024) ![0, 8, 0] S1x2047x1024.size inb_S3x2064x1024_S1x2047x1024_0_8_0).toLoadRect X) (View.readAt (Elt F) (Memref.whole cc0_scratch1).view (Rect.unit (s := S3x2064x1024) ![0, 7, 0] S1x2047x1024.size inb_S3x2064x1024_S1x2047x1024_0_7_0).toLoadRect X) (View.readAt (Elt F) (Memref.whole cc0_scratch1).view (Rect.unit (s := S3x2064x1024) ![0, 9, 0] S1x2047x1024.size inb_S3x2064x1024_S1x2047x1024_0_9_0).toLoadRect X)⟩ :: L))) (ix2 r l)
      = outAt m c (6144 + r.val) l := by
  have h0 := r.isLt
  refine (read_cout 1 (by decide) _ _ _ c _ _).trans ?_
  by_cases hj : r.val = 2047
  · refine (View.read_writes_cons_hit_of_coords _ _ _ _ _ (ix3 (0 : Fin 1) (0 : Fin 1) l) _ (by intro a; fin_cases a <;> simp [Rect.unit, hj])).trans ((pay9_apply c _ _ _ _).trans ?_)
    simp only [load_1 0 2054 _ c X (fun r l => row (blk m c) (6136 + r) l) (fun i h h8 h9 => hX i h (by omega)), load_1 0 2055 _ c X (fun r l => row (blk m c) (6136 + r) l) (fun i h h8 h9 => hX i h (by omega))]
    rw [load_halo_1]
    unfold outAt
    rw [if_neg (show ¬ 6144 + r.val = 0 by omega), if_pos (show 6144 + r.val = 8191 by omega)]
    rfl
  · refine (View.read_writes_cons_miss_of_axis _ _ _ _ _ 1 2047 1 rfl rfl rfl (Or.inl (by change r.val < 2047; omega))).trans ((View.read_writes_cons_hit_of_coords _ _ _ _ _ (ix3 (0 : Fin 1) (⟨r.val, by omega⟩ : Fin 2047) l) _ (by intro a; fin_cases a <;> simp [Rect.unit])).trans ((pay7_apply _ _ _ _).trans ?_))
    simp only [load_2047 0 8 _ c X (fun r l => row (blk m c) (6136 + r) l) (fun i h h8 h9 => hX i h (by omega)), load_2047 0 7 _ c X (fun r l => row (blk m c) (6136 + r) l) (fun i h h8 h9 => hX i h (by omega)), load_2047 0 9 _ c X (fun r l => row (blk m c) (6136 + r) l) (fun i h h8 h9 => hX i h (by omega))]
    exact inner_rows m c _ _ _ _ _ (by omega) (by omega) (by first | omega | (simp <;> omega)) (by first | omega | (simp <;> omega)) (by first | omega | (simp <;> omega))

end Cert.KernelIdeal.Halo
-- ==== Proof.KernelIdeal.Out.lean ====
/- The four chunks, written one after another, make the result. -/
module

public import proofs.«01_k».proof.Proof.KernelIdeal.Value

@[expose] public section

set_option maxRecDepth 16384

noncomputable section

namespace Cert.KernelIdeal.Halo

open Cert.KernelIdeal Cert.KernelIdeal.Gen

open Idealize.ShloMosaic
open Idealize.ShloMosaic.TcCoe Idealize.ShloMosaic.Tactic

variable {F : FTy → Type} [FloatOps F]

variable (m : (ℓ : Loc nD τ sig) → Buf (Elt F) ℓ)

/-- Rows of the result from `o` on, as a piece written at row `o` gives them. -/
theorem piece_apply (c : Dev nD) (o : ℕ) (inb : ∀ a, (![o, 0] : Fin 2 → ℕ) a + S2048x1024.size a ≤ S8192x1024.size a) (d : S2048x1024.Idx → Elt F .f32)
    (h : ∀ (r : Fin 2048) (l : Fin 1024), d (ix2 r l) = outAt m c (o + r.val) l) (x : S2048x1024.Idx) :
    d x = (outBuf m c : S8192x1024.Idx → Elt F .f32) ((Rect.unit (s := S8192x1024) ![o, 0] S2048x1024.size inb).emb x) := by
  have hx : x = ix2 (x 0 : Fin 2048) (x 1 : Fin 1024) := by funext a; fin_cases a <;> rfl
  refine (congrArg d hx).trans ((h _ _).trans ?_)
  refine congr (congrArg (outAt m c) ?_) (Fin.ext ?_)
  · change o + (x 0).val = o + 1 * (x 0).val; omega
  · change (x 1).val = 0 + 1 * (x 1).val; omega

theorem mem_rows (o : ℕ) (inb : ∀ a, (![o, 0] : Fin 2 → ℕ) a + S2048x1024.size a ≤ S8192x1024.size a) (i : S8192x1024.Idx) (h : o ≤ (i 0).val) (h' : (i 0).val < o + 2048) :
    i ∈ (Rect.unit (s := S8192x1024) ![o, 0] S2048x1024.size inb).set := by
  have h1 : (i 1).val < 1024 := (i 1).isLt
  rw [Rect.mem_set_unit]
  intro a; fin_cases a
  · exact ⟨h, h'⟩
  · exact ⟨Nat.zero_le _, (by change (i 1).val < 0 + 1024; omega)⟩

/-- The four chunks, written one after another, make the result. -/
theorem out_of_chunks (c : Dev nD) (fo : Buf (Elt F) ((c : Thread nD τ).loc main_v1)) (d0 d1 d2 d3 : S2048x1024.Idx → Elt F .f32)
    (h0 : ∀ (r : Fin 2048) (l : Fin 1024), d0 (ix2 r l) = outAt m c r.val l) (h1 : ∀ (r : Fin 2048) (l : Fin 1024), d1 (ix2 r l) = outAt m c (2048 + r.val) l)
    (h2 : ∀ (r : Fin 2048) (l : Fin 1024), d2 (ix2 r l) = outAt m c (4096 + r.val) l) (h3 : ∀ (r : Fin 2048) (l : Fin 1024), d3 (ix2 r l) = outAt m c (6144 + r.val) l) :
    (Memref.whole main_v1).view.writes (Elt F) fo
        [⟨Rect.unit (s := S8192x1024) ![6144, 0] S2048x1024.size inb_S8192x1024_S2048x1024_6144_0, d3⟩,
          ⟨Rect.unit (s := S8192x1024) ![0, 0] S2048x1024.size inb_S8192x1024_S2048x1024_0_0, d0⟩,
          ⟨Rect.unit (s := S8192x1024) ![4096, 0] S2048x1024.size inb_S8192x1024_S2048x1024_4096_0, d2⟩,
          ⟨Rect.unit (s := S8192x1024) ![2048, 0] S2048x1024.size inb_S8192x1024_S2048x1024_2048_0, d1⟩]
      = outBuf m c := by
  generalize hL : [(⟨Rect.unit (s := S8192x1024) ![6144, 0] S2048x1024.size inb_S8192x1024_S2048x1024_6144_0, d3⟩ : View.Piece (Elt F) S8192x1024 .f32),
          ⟨Rect.unit (s := S8192x1024) ![0, 0] S2048x1024.size inb_S8192x1024_S2048x1024_0_0, d0⟩,
          ⟨Rect.unit (s := S8192x1024) ![4096, 0] S2048x1024.size inb_S8192x1024_S2048x1024_4096_0, d2⟩,
          ⟨Rect.unit (s := S8192x1024) ![2048, 0] S2048x1024.size inb_S8192x1024_S2048x1024_2048_0, d1⟩] = L
  have key := View.read_writes_apply_of_pieces (Memref.whole main_v1).view fo (outBuf m c : S8192x1024.Idx → Elt F .f32) L (by
    subst hL
    intro p hp
    simp only [List.mem_cons, List.not_mem_nil, or_false] at hp
    rcases hp with rfl | rfl | rfl | rfl
    · exact piece_apply m c 6144 inb_S8192x1024_S2048x1024_6144_0 d3 h3
    · exact piece_apply m c 0 inb_S8192x1024_S2048x1024_0_0 d0 (fun r l => (h0 r l).trans (by rw [Nat.zero_add]))
    · exact piece_apply m c 4096 inb_S8192x1024_S2048x1024_4096_0 d2 h2
    · exact piece_apply m c 2048 inb_S8192x1024_S2048x1024_2048_0 d1 h1)
  funext (i : S8192x1024.Idx)
  refine (congrFun (View.read_whole main_v1 _) i).symm.trans (key i ?_)
  subst hL
  have hi : (i 0).val < 8192 := (i 0).isLt
  by_cases a : (i 0).val < 2048
  · exact ⟨_, List.mem_cons_of_mem _ List.mem_cons_self, mem_rows 0 inb_S8192x1024_S2048x1024_0_0 i (Nat.zero_le _) (by omega)⟩
  by_cases b : (i 0).val < 4096
  · exact ⟨_, List.mem_cons_of_mem _ (List.mem_cons_of_mem _ (List.mem_cons_of_mem _ List.mem_cons_self)), mem_rows 2048 inb_S8192x1024_S2048x1024_2048_0 i (by omega) (by omega)⟩
  by_cases c' : (i 0).val < 6144
  · exact ⟨_, List.mem_cons_of_mem _ (List.mem_cons_of_mem _ List.mem_cons_self), mem_rows 4096 inb_S8192x1024_S2048x1024_4096_0 i (by omega) (by omega)⟩
  · exact ⟨_, List.mem_cons_self, mem_rows 6144 inb_S8192x1024_S2048x1024_6144_0 i (by omega) (by omega)⟩

end Cert.KernelIdeal.Halo

end
-- ==== Proof.KernelIdeal.Body.lean ====
/- The kernel body, run once at a symbolic device. -/
module

public import proofs.«01_k».proof.Proof.KernelIdeal.Out
public import Idealize.ShloMosaic.Lib.Pipeline.FrameBody
public import Idealize.ShloMosaic.Lib.Exec

@[expose] public section

set_option maxRecDepth 16384

noncomputable section

namespace Cert.KernelIdeal.Halo

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A device's five positions, one by one. -/
theorem places_five (c : Dev nD) : (places c : sProp 𝕄) ⊣⊢
    iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0) := by
  unfold places
  rw [bigSep_univ_eq_bigSepL [0, 1, 2, 3, 4] (by decide) (by decide), bigSepL_cons_cons, bigSepL_cons_cons, bigSepL_cons_cons, bigSepL_cons_cons, bigSepL_singleton]
  exact ⟨fun _ h => h, fun _ h => h⟩

/-- What the body starts from, beside its obligations. -/
def bodyPre (K : Dev nD × Fin 5 → ℕ) (c : Dev nD) : sProp 𝕄 :=
  iprop(ghost m K c ∗ cred (tallyAt (cell c 0) () 2) ∗ cred (tallyAt (cell c 3) () N) ∗ cred (tallyAt (cell c 4) () N) ∗ levAts L lv ∗ locals0 c
    ∗ (((c : Thread nD τ).loc main_arg0) ↦{fullShare} blk m c) ∗ (∃ f, (Memref.whole main_v1).view.loc (c : Thread nD τ) ↦{fullShare} f)
    ∗ (∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f))

/-- What the body leaves: the argument as it was, the result, the scratch buffers, and every semaphore at zero. -/
def bodyPost (c : Dev nD) : sProp 𝕄 :=
  iprop(semVal (cell c 0) 0 ∗ semVal (cell c 1) 0 ∗ semVal (cell c 2) 0 ∗ semVal (cell c 3) 0 ∗ semVal (cell c 4) 0 ∗ locals0 c
    ∗ (((c : Thread nD τ).loc main_arg0) ↦{fullShare} blk m c) ∗ (((c : Thread nD τ).loc main_v1) ↦{fullShare} outBuf m c)
    ∗ (∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f))

set_option sl_exec.squeezeSlice true in
set_option sl_exec.dmaWindow true in
set_option maxHeartbeats 4000000 in
theorem body_run (K : Dev nD × Fin 5 → ℕ) (c : Dev nD) (W : Waits sig Unit) (Kt : PUnit → sProp 𝕄) :
    iprop(bodyPre m K c ∗ owes (c : Thread nD τ) (owe4 c) W ∗ (bodyPost m c ∗ (∃ W', owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, Prog.bind_assoc, wp_deviceId]

  simp only [dev1_eq c, dev2_eq c]
  unfold bodyPre ghost duesOf locals0
  iintro ⟨⟨⟨#HK, Hplaces, HtL0, HtR0, HtR3, HtL4, Ht1, Ht2⟩, Hc0, Hc3, Hc4, #Hlev, ⟨Hz0, Hz1, Hz2, Hz3, Hz4⟩,
    Hx, ⟨%fo, Hout⟩, ⟨%fh, Hhalo⟩, ⟨%fi, Hcin⟩, ⟨%fc, Hcout⟩⟩, HO, Hk⟩
  ihave Hplaces := (places_five c).1 $$ Hplaces
  icases Hplaces with ⟨Ha0, Ha1, Ha2, Ha3, Ha4⟩
  ihave Hh := (halo_slots c fh).1 $$ Hhalo
  icases Hh with ⟨Hs0, Hs1⟩
  ihave HL0 := (known_at m K (left c) 0) $$ HK
  icases HL0 with ⟨#HIL0, #HrL0⟩
  ihave HR0 := (known_at m K (right c) 0) $$ HK
  icases HR0 with ⟨#HIR0, #HrR0⟩
  ihave H00 := (known_at m K c 0) $$ HK
  icases H00 with ⟨#HI0, -⟩
  ihave H03 := (known_at m K c 3) $$ HK
  icases H03 with ⟨-, #Hr3⟩
  ihave H04 := (known_at m K c 4) $$ HK
  icases H04 with ⟨-, #Hr4⟩
  -- the signal to the device before: slot 0, and that the cell of its landing has reached its round
  unfold owe4
  iapply (Rounds.wp_signal 𝒱₀ ER (ringRd m) (c : Thread nD τ) none (dst := (left c : Thread nD τ)) (κ := K (left c, 0))
      (d := true) (by rw [duties_bar]; exact Finset.mem_univ _) ((amount_bar m (left c) true).trans (by decide)) () (owe3 c) rfl) $$ [HO HtL0 Hs0]
  · isplitr; · iexact HIL0
    isplitl [HO]; · iexact HO
    isplitl [HtL0]; · iexact HtL0
    isplitl [Hs0]
    · rw [payload_bar_true]; unfold leaveR; rw [right_left]
      isplitl [Hs0]; · iexists fh; iexact Hs0
      iexact Hr3
    · iexact HrL0
  iintro HO
  unfold owe3
  iapply (Rounds.wp_signal 𝒱₀ ER (ringRd m) (c : Thread nD τ) none (dst := (right c : Thread nD τ)) (κ := K (right c, 0))
      (d := false) (by rw [duties_bar]; exact Finset.mem_univ _) ((amount_bar m (right c) false).trans (by decide)) () (owe2 c) rfl) $$ [HO HtR0 Hs1]
  · isplitr; · iexact HIR0
    isplitl [HO]; · iexact HO
    isplitl [HtR0]; · iexact HtR0
    isplitl [Hs1]
    · rw [payload_bar_false]; unfold leaveL; rw [left_right]
      isplitl [Hs1]; · iexists fh; iexact Hs1
      iexact Hr4
    · iexact HrR0
  iintro HO
  iapply (Rounds.wp_wait_rest_token 𝒱₀ ER (ringRd m) (c : Thread nD τ) none (κ := K (c, 0))
      (wpE_semWait_eq 𝒱₀ (c : Thread nD τ) none Set.univ) (Set.mem_univ _) () (O := owe2 c) (W := W) (R := 0) (m := 0) (T := ∅)
      (by rw [expect_bar]; rfl)) $$ [Hc0 HO Ha0]
  · isplitr; · iexact HI0
    isplitl [Hc0]; · iexact Hc0
    isplitl [HO]; · iexact HO
    isplitr; · iapply (mayWait_bar c); iexact Hlev
    iexact Ha0
  iintro ⟨HO, Ha0, -, Hpay⟩
  imod (Rounds.cell_close ER (ringRd m) (Set.mem_univ (K (c, 0))) (fun h => h) (R := 0 + 1) (duties_later m (cell c 0))) $$ [Ha0] with Hy0
  · isplitr; · iexact HI0
    iexact Ha0
  ihave Hpay := (Entails.of_eq (rest_bar m c)) $$ Hpay
  unfold leaveL leaveR
  icases Hpay with ⟨⟨⟨%gl, Hs1⟩, -⟩, ⟨%gr, Hs0⟩, -⟩
  ihave Hx := (x_shares m c).1 $$ Hx
  icases Hx with ⟨⟨Htop, Hbot, Hxr⟩, Hx0, Hx1, Hx2⟩
  iapply (wp_send_left m K c _ (dev3_eq c) gl _) $$ [Htop Hs1 HO Ht1 HtL4]
  · isplitr; · iexact HK
    isplitl [Htop]; · iexact Htop
    isplitl [Hs1]; · iexact Hs1
    isplitl [HO]; · iexact HO
    isplitl [Ht1]; · iexact Ht1
    iexact HtL4
  iintro ⟨Hc1, HO⟩
  iapply (wp_send_right m K c _ (dev4_eq c) gr _) $$ [Hbot Hs0 HO Ht2 HtR3]
  · isplitr; · iexact HK
    isplitl [Hbot]; · iexact Hbot
    isplitl [Hs0]; · iexact Hs0
    isplitl [HO]; · iexact HO
    isplitl [Ht2]; · iexact Ht2
    iexact HtR3
  iintro ⟨Hc2, HO⟩
  unfold xTok
  sl_exec
  iapply (wp_wait_xfer m K c ⟨5, by decide⟩ 1 (by decide) rfl _) $$ [Hc1 HO Ha1]
  · isplitr; · iexact HK
    isplitl [Hc1]; · iexact Hc1
    isplitl [HO]; · iexact HO
    iexact Ha1
  iintro ⟨HO, Hy1, Htop⟩
  iapply (wp_wait_xfer m K c ⟨8, by decide⟩ 4 (by decide) rfl _) $$ [Hc4 HO Ha4]
  · isplitr; · iexact HK
    isplitl [Hc4]; · iexact Hc4
    isplitl [HO]; · iexact HO
    iexact Ha4
  iintro ⟨HO, Hy4, Hs1⟩
  iapply (wp_wait_xfer m K c ⟨6, by decide⟩ 2 (by decide) rfl _) $$ [Hc2 HO Ha2]
  · isplitr; · iexact HK
    isplitl [Hc2]; · iexact Hc2
    isplitl [HO]; · iexact HO
    iexact Ha2
  iintro ⟨HO, Hy2, Hbot⟩
  iapply (wp_wait_xfer m K c ⟨7, by decide⟩ 3 (by decide) rfl _) $$ [Hc3 HO Ha3]
  · isplitr; · iexact HK
    isplitl [Hc3]; · iexact Hc3
    isplitl [HO]; · iexact HO
    iexact Ha3
  iintro ⟨HO, Hy3, Hs0⟩
  ihave Htop := (Entails.of_eq (payload_1 m c false)) $$ Htop
  ihave Hbot := (Entails.of_eq (payload_2 m c false)) $$ Hbot
  ihave Hs0 := (Entails.of_eq (payload_3 m c false)) $$ Hs0
  ihave Hs1 := (Entails.of_eq (payload_4 m c false)) $$ Hs1
  ihave Hhalo := (halo_slots c (haloBuf m c)).2 $$ [Hs0 Hs1]
  · isplitl [Hs0]; · iexact Hs0
    iexact Hs1
  ihave Hhalo := (show (((c : Thread nD τ).loc cc0_scratch0) ↦{fullShare} haloBuf m c : sProp 𝕄) ⊢ (Memref.whole cc0_scratch0).view.loc (c : Thread nD τ) ↦{fullShare} haloBuf m c from fun _ h => h) $$ Hhalo
  sl_exec
  have hout := out_of_chunks m c fo (body_run.sl.dma11 m c fi fc) (body_run.sl.dma5 m c fi fc) (body_run.sl.dma10 m c fi fc) (body_run.sl.dma22 m c fi fc)
    (fun r l => by
      unfold body_run.sl.dma11 body_run.sl.Hcout_4
      exact chunk0 m c (cinB m c fi) fc (cinB_2 m c fi) _ _ _ r l)
    (fun r l => by
      unfold body_run.sl.dma5 body_run.sl.Hcout_1
      exact chunk1 m c (cinA m c fi) fc (cinA_0 m c fi) _ _ r l)
    (fun r l => by
      unfold body_run.sl.dma10 body_run.sl.Hcout_2
      exact chunk2 m c (cinB m c fi) fc (cinB_1 m c fi) _ _ _ r l)
    (fun r l => by
      unfold body_run.sl.dma22 body_run.sl.Hcout_6
      exact chunk3 m c (cinB m c fi) fc (cinB_0 m c fi) _ _ _ r l)
  ihave Hout := (Entails.of_eq (congrArg (fun f => ((Memref.whole main_v1).view.loc (c : Thread nD τ) ↦{fullShare} f : sProp 𝕄)) hout)) $$ Hout
  ihave Hx := (x_shares m c).2 $$ [Htop Hbot Hxr Hx0 Hx1 Hx2]
  · unfold xTok
    isplitl [Htop Hbot Hxr]
    · isplitl [Htop]; · iexact Htop
      isplitl [Hbot]; · iexact Hbot
      iexact Hxr
    isplitl [Hx0]; · iexact Hx0
    isplitl [Hx1]; · iexact Hx1
    iexact Hx2
  iapply (Entails.of_eq (wp_ret _ _ _ _ _).symm)
  imodintro
  iapply Hk
  isplitr [HO]
  · unfold bodyPost locals0
    isplitl [Hy0]; · iexact Hy0
    isplitl [Hy1]; · iexact Hy1
    isplitl [Hy2]; · iexact Hy2
    isplitl [Hy3]; · iexact Hy3
    isplitl [Hy4]; · iexact Hy4
    isplitl [Hz0 Hz1 Hz2 Hz3 Hz4]
    · isplitl [Hz0]; · iexact Hz0
      isplitl [Hz1]; · iexact Hz1
      isplitl [Hz2]; · iexact Hz2
      isplitl [Hz3]; · iexact Hz3
      iexact Hz4
    isplitl [Hx]; · iexact Hx
    isplitl [Hout]; · iexact Hout
    isplitl [Hhalo]; · iexists (haloBuf m c); iexact Hhalo
    isplitl [Hcin]; · iexists _; iexact Hcin
    iexists _; iexact Hcout
  · iexists _; iexact HO

end Cert.KernelIdeal.Halo

end
-- ==== Proof.KernelIdeal.Deal.lean ====
/- The launch's resources: the cells and their tokens minted, each token dealt to the device that pays its duty, and the credit the devices owe one another. -/
module

public import proofs.«01_k».proof.Proof.KernelIdeal.Body

@[expose] public section

set_option maxRecDepth 16384

noncomputable section

namespace Cert.KernelIdeal.Halo

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells told apart -/

theorem cellSem_injective : Function.Injective cellSem := by decide
theorem cell_eq_iff {a b : Dev nD} {j k : Fin 5} : Iff (cell a j = cell b k) (a = b ∧ j = k) :=
  ⟨fun h => ⟨Fin.ext (congrArg (fun g : GSem nD τ sig => g.1.1.val) h), cellSem_injective (congrArg Prod.snd h)⟩, fun h => by rw [h.1, h.2]⟩

/-- A cell by its device and number, and all the cells. -/
abbrev cellAt (ck : Dev nD × Fin 5) : GSem nD τ sig := cell ck.1 ck.2
theorem cellAt_injective : Function.Injective cellAt := fun a b h => Prod.ext (cell_eq_iff.mp h).1 (cell_eq_iff.mp h).2
def haloCells : Finset (GSem nD τ sig) := Finset.univ.map ⟨cellAt, cellAt_injective⟩

/-- The duties of a device's cells: two at the barrier, one at each of the others. -/
def dutyAt : Fin 6 → Fin 5 × Bool
  | 0 => (0, false) | 1 => (0, true) | 2 => (1, false) | 3 => (2, false) | 4 => (3, false) | 5 => (4, false)
theorem dutyAt_injective : Function.Injective dutyAt := by decide
abbrev tokAt (cj : Dev nD × Fin 6) : GSem nD τ sig × ℕ × Bool := (cell cj.1 (dutyAt cj.2).1, 0, (dutyAt cj.2).2)
theorem tokAt_injective : Function.Injective tokAt := fun a b h =>
  have h1 := cell_eq_iff.mp (congrArg Prod.fst h)
  Prod.ext h1.1 (dutyAt_injective (Prod.ext h1.2 (congrArg (fun x : GSem nD τ sig × ℕ × Bool => x.2.2) h)))
def haloToks : Finset (GSem nD τ sig × ℕ × Bool) := Finset.univ.map ⟨tokAt, tokAt_injective⟩

def u₀ : UU :=
  (initOf (Pipeline.cells cfgs cellOf_inj) (Pipeline.launchToks cfgs cellOf_inj), (initOf haloCells haloToks, 1))

/-! ## What the launch deals a device -/

/-- The tokens of device `c`'s own cells. -/
def minted (c : Dev nD) : sProp 𝕄 :=
  iprop(dutyTok ER (cell c 0) 0 false ∗ dutyTok ER (cell c 0) 0 true ∗ dutyTok ER (cell c 1) 0 false ∗ dutyTok ER (cell c 2) 0 false
    ∗ dutyTok ER (cell c 3) 0 false ∗ dutyTok ER (cell c 4) 0 false)

theorem minted_eq (c : Dev nD) : (bigSep Finset.univ fun j : Fin 6 => (dutyTok ER (tokAt (c, j)).1 (tokAt (c, j)).2.1 (tokAt (c, j)).2.2 : sProp 𝕄)) = minted c := by
  rw [bigSep_univ_eq_bigSepL [0, 1, 2, 3, 4, 5] (by decide) (by decide)]; rfl

def G (c : Dev nD) : sProp 𝕄 :=
  iprop((bigSep Finset.univ fun k : Fin 5 => roundState ER (ringRd m) (cellAt (c, k)) 0)
    ∗ (bigSep Finset.univ fun k : Fin 5 => reached ER (cellAt (c, k)) 0) ∗ places c ∗ minted c)

/-- What a device holds once the cells are shared. -/
def G' (c : Dev nD) : sProp 𝕄 := iprop((∃ K, ghost m K c) ∗ locals0 c)

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (cellAt (c, k)) := by
    unfold haloCells; rw [bigSep_map, bigSep_univ_prod]; rfl
  have hT : bigSep haloToks (fun x => (dutyTok ER x.1 x.2.1 x.2.2 : sProp 𝕄)) = bigSep Finset.univ fun c : Dev nD => minted c := by
    unfold haloToks; rw [bigSep_map, bigSep_univ_prod]
    exact bigSep_congr fun c _ => minted_eq c
  iintro HX
  imod (Rounds.fund ER (ringRd m) haloCells haloToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat] <;> iassumption

/-! ## The semaphores -/

/-- The kernel's own semaphores: five for the local copies, four for the exchange. -/
abbrev osem : Fin 9 → SemLoc sig := fun i => .dma ⟨i.val, i.isLt⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma ⟨0, by decide⟩) 0 ∗ semVal ((c : Thread nD τ), .dma ⟨1, by decide⟩) 0 ∗ semVal ((c : Thread nD τ), .dma ⟨2, by decide⟩) 0
        ∗ semVal ((c : Thread nD τ), .dma ⟨3, by decide⟩) 0 ∗ semVal ((c : Thread nD τ), .dma ⟨4, by decide⟩) 0
        ∗ semVal (cell c 1) 0 ∗ semVal (cell c 2) 0 ∗ semVal (cell c 3) 0 ∗ semVal (cell c 4) 0) := by
  rw [Pipeline.ownSems0_eq_of_list c osem [0, 1, 2, 3, 4, 5, 6, 7, 8] (by decide) (by decide)]; rfl
/-- The barrier's is the one unscoped semaphore. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

/-- The semaphores sort into the five cells and the five of the local copies. -/
theorem sems_sorted (c : Dev nD) :
    iprop(Pipeline.ownSems0 (Ix := Unit) (Name := ℕ) (U := UU) (Lvl := ℕ) (Val := Elt F) (τ := τ) osem c ∗ unscopedSems0 c)
      ⊣⊢ (iprop((bigSep Finset.univ fun k : Fin 5 => semVal (cellAt (c, k)) 0) ∗ locals0 c) : sProp 𝕄) := by
  rw [ownSems0_eq, unscopedSems0_eq, five]
  unfold locals0
  constructor
  · iintro ⟨⟨H0, H1, H2, H3, H4, H5, H6, H7, H8⟩, HB⟩
    isplitl [H5 H6 H7 H8 HB]
    · isplitl [HB]; · iexact HB
      isplitl [H5]; · iexact H5
      isplitl [H6]; · iexact H6
      isplitl [H7] <;> iassumption
    · isplitl [H0]; · iexact H0
      isplitl [H1]; · iexact H1
      isplitl [H2]; · iexact H2
      isplitl [H3] <;> iassumption
  · iintro ⟨⟨HB, H5, H6, H7, H8⟩, H0, H1, H2, H3, H4⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7] <;> iassumption
    · iexact HB

/-! ## Sharing the cells -/

/-- On one device: every cell's invariant made, the rest as it was. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 5 => iprop(∃ κ : ℕ, cellInv ER (ringRd m) κ (cellAt (c, k))))
          ∗ (bigSep Finset.univ fun k : Fin 5 => reached ER (cellAt (c, k)) 0) ∗ (places c ∗ locals0 c) ∗ minted c) := by
  unfold G
  iintro ⟨Hos, Hus, Hst, Hr, Hat, Htok⟩
  ihave Hv := (sems_sorted (F := F) c).1 $$ [Hos Hus]
  · isplitl [Hos] <;> iassumption
  icases Hv with ⟨Hv, Hloc⟩
  imod (show iprop((bigSep Finset.univ fun k : Fin 5 => semVal (cellAt (c, k)) 0) ∗ bigSep Finset.univ fun k : Fin 5 => roundState ER (ringRd m) (cellAt (c, k)) 0)
      ⊢ (|={Set.univ}=> bigSep Finset.univ fun k : Fin 5 => iprop(∃ κ : ℕ, cellInv ER (ringRd m) κ (cellAt (c, k))) : sProp 𝕄) from by
        rw [← bigSep_sep']
        exact (bigSep_mono fun k _ => (Rounds.body_intro ER (ringRd m) (cellAt (c, k))).trans inv_alloc).trans (bigSep_fupd _ _)) $$ [Hv Hst] with Hinv
  · isplitl [Hv] <;> iassumption
  imodintro
  isplitl [Hinv]; · iexact Hinv
  isplitl [Hr]; · iexact Hr
  isplitl [Hat Hloc]
  · isplitl [Hat] <;> iassumption
  iexact Htok

def around : Dev nD ≃ Dev nD := ⟨right, left, left_right, right_left⟩

/-- Every token goes to the device that pays its duty. -/
theorem dealt : (bigSep Finset.univ fun c : Dev nD => (minted c : sProp 𝕄)) ⊢ bigSep Finset.univ fun c : Dev nD => duesOf c := by
  unfold minted duesOf
  simp only [bigSep_sep']
  rw [bigSep_univ_equiv around (fun c : Dev nD => (dutyTok ER (cell c 0) 0 false : sProp 𝕄)),
    bigSep_univ_equiv around.symm (fun c : Dev nD => (dutyTok ER (cell c 0) 0 true : sProp 𝕄)),
    bigSep_univ_equiv around (fun c : Dev nD => (dutyTok ER (cell c 3) 0 false : sProp 𝕄)),
    bigSep_univ_equiv around.symm (fun c : Dev nD => (dutyTok ER (cell c 4) 0 false : sProp 𝕄))]
  iintro ⟨HF, HT, H1, H2, H3, H4⟩
  isplitl [HT]; · iexact HT
  isplitl [HF]; · iexact HF
  isplitl [H3]; · iexact H3
  isplitl [H4]; · iexact H4
  isplitl [H1] <;> iassumption

/-- What every device knows can be handed to each of them. -/
theorem hand_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem shared_all :
    (bigSep Finset.univ fun c : Dev nD => iprop((bigSep Finset.univ fun k : Fin 5 => iprop(∃ κ : ℕ, cellInv ER (ringRd m) κ (cellAt (c, k))))
          ∗ (bigSep Finset.univ fun k : Fin 5 => reached ER (cellAt (c, k)) 0) ∗ (places c ∗ locals0 c) ∗ minted c) : sProp 𝕄)
      ⊢ bigSep Finset.univ (G' m) := by
  rw [bigSep_sep', bigSep_sep', bigSep_sep', ← bigSep_univ_prod (fun ck : Dev nD × Fin 5 => iprop(∃ κ : ℕ, cellInv ER (ringRd m) κ (cellAt ck))),
    ← bigSep_univ_prod (fun ck : Dev nD × Fin 5 => (reached ER (cellAt ck) 0 : sProp 𝕄))]
  iintro ⟨HI, #HR, Hat, Htok⟩
  ihave HK := (BI.bigSep_exists_pi Finset.univ (fun (ck : Dev nD × Fin 5) (κ : ℕ) => (cellInv ER (ringRd m) κ (cellAt ck) : sProp 𝕄))) $$ HI
  icases HK with ⟨%K, #HI⟩
  ihave Htk := (dealt (F := F)) $$ Htok
  iapply (hand_out (R := known m K) (Φ := fun c => iprop((places c ∗ locals0 c) ∗ duesOf c)) (fun c => by
    unfold G' ghost
    iintro ⟨#HK, ⟨Hp, Hl⟩, Hd⟩
    isplitl [Hp Hd]
    · iexists K
      isplitr; · iexact HK
      isplitl [Hp] <;> iassumption
    · iexact Hl))
  isplitr
  · unfold known
    iapply (Entails.of_eq (bigSep_sep' Finset.univ (fun ck : Dev nD × Fin 5 => cellInv ER (ringRd m) (K ck) (cellAt ck)) (fun ck : Dev nD × Fin 5 => (reached ER (cellAt ck) 0 : sProp 𝕄))).symm)
    isplitl; · iexact HI
    iexact HR
  · iapply (Entails.of_eq (bigSep_sep' Finset.univ (fun c : Dev nD => iprop(places c ∗ locals0 c)) (fun c : Dev nD => (duesOf c : sProp 𝕄))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (shared_all m))

/-! ## The credit a device starts with -/

theorem eq_right_iff {c d : Dev nD} : Iff (c = right d) (d = left c) := ⟨fun h => by rw [h, left_right], fun h => by rw [h, right_left]⟩
theorem eq_left_iff {c d : Dev nD} : Iff (c = left d) (d = right c) := ⟨fun h => by rw [h, right_left], fun h => by rw [h, left_right]⟩

/-- What device `d` owes device `c`'s cell `k`. -/
theorem owed_at (d c : Dev nD) (k : Fin 5) : owe4 d (cell c k) ()
    = (((if d = left c ∧ k = 3 then N else 0) + (if d = right c ∧ k = 4 then N else 0)) + (if d = left c ∧ k = 0 then 1 else 0)) + (if d = right c ∧ k = 0 then 1 else 0) := by
  unfold owe4 owe3 owe2 owe1
  simp only [Pi.add_apply, Finsupp.add_apply, tallyAt_apply, and_true]
  have hr (j : Fin 5) : (cell c k = cell (right d) j) = (d = left c ∧ k = j) := propext (cell_eq_iff.trans (and_congr_left fun _ => eq_right_iff))
  have hl (j : Fin 5) : (cell c k = cell (left d) j) = (d = right c ∧ k = j) := propext (cell_eq_iff.trans (and_congr_left fun _ => eq_left_iff))
  simp only [hr, hl]

theorem sum_at (a : Dev nD) (n : ℕ) : (∑ d : Dev nD, if d = a then n else 0) = n := by
  rw [Finset.sum_ite_eq' Finset.univ a fun _ => n, if_pos (Finset.mem_univ _)]

theorem launch_at (c : Dev nD) (k : Fin 5) (n : ℕ) (h : (∑ d : Dev nD, owe4 d (cell c k) ()) = n) :
    tallyOn (cell c k) (launchCredit (Pipeline.owing owe4) 0 (cell c k)) = (tallyAt (cell c k) () n : CellTallies nD τ sig Unit) := by
  unfold tallyAt; refine congrArg _ (Finsupp.ext fun u => ?_); cases u
  rw [Pipeline.launchCredit_owing, Finsupp.single_eq_same, h]

theorem launch_bar (c : Dev nD) : (∑ d : Dev nD, owe4 d (cell c 0) ()) = 2 := by
  rw [Finset.sum_congr rfl fun d _ => (owed_at d c 0).trans (show _ = (if d = left c then 1 else 0) + (if d = right c then 1 else 0) by simp), Finset.sum_add_distrib, sum_at, sum_at]
theorem launch_3 (c : Dev nD) : (∑ d : Dev nD, owe4 d (cell c 3) ()) = N := by
  rw [Finset.sum_congr rfl fun d _ => (owed_at d c 3).trans (show _ = (if d = left c then N else 0) by simp), sum_at]
theorem launch_4 (c : Dev nD) : (∑ d : Dev nD, owe4 d (cell c 4) ()) = N := by
  rw [Finset.sum_congr rfl fun d _ => (owed_at d c 4).trans (show _ = (if d = right c then N else 0) by simp), sum_at]

theorem creds (c : Dev nD) :
    (Pipeline.launchCred owe4 c : sProp 𝕄) ⊢ iprop(cred (tallyAt (cell c 0) () 2) ∗ cred (tallyAt (cell c 3) () N) ∗ cred (tallyAt (cell c 4) () N)) := by
  unfold Pipeline.launchCred
  rw [bigSep_univ_at _ (cellSem 0), bigSep_erase (Finset.mem_erase.mpr ⟨(by decide), Finset.mem_univ (cellSem 3)⟩),
    bigSep_erase (Finset.mem_erase.mpr ⟨(by decide), Finset.mem_erase.mpr ⟨(by decide), Finset.mem_univ (cellSem 4)⟩⟩),
    launch_at c 0 2 (launch_bar c), launch_at c 3 N (launch_3 c), launch_at c 4 N (launch_4 c)]
  refine (show iprop(cred (tallyAt (cell c 0) () 2) ∗ cred (tallyAt (cell c 3) () N) ∗ cred (tallyAt (cell c 4) () N) ∗ bigSep _ _) ⊢ _ from ?_)
  iintro ⟨H0, H3, H4, -⟩
  isplitl [H0]; · iexact H0
  isplitl [H3] <;> iassumption

end Cert.KernelIdeal.Halo

end
-- ==== Proof.KernelIdeal.Run.lean ====
/- The run of the whole mesh: the result, the argument unchanged, every semaphore back at zero. -/
module

public import proofs.«01_k».proof.Proof.KernelIdeal.Deal

@[expose] public section

set_option maxRecDepth 16384

noncomputable section

namespace Cert.KernelIdeal.Halo

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- What device `c` starts from and ends with. -/
def Φ₀ (c : Dev nD) : sProp 𝕄 := iprop(∃ K, bodyPre m K c)

def dats (_ : Fin 1) (c : Dev nD) : Pipeline.Dat τ (Elt F) Unit ℕ UU ℕ cfg0 c where
  A w := m ((cfg0.win w).arr.view.loc (c : Thread nD τ))
  after w _ := (show Fin 0 from w).elim0
  Φ t := match t with
    | ⟨0, _⟩ => Φ₀ m c
    | ⟨_ + 1, _⟩ => bodyPost m c
  q _ := fullShare
  owed t := match t with
    | ⟨0, _⟩ => owe4 c
    | ⟨_ + 1, _⟩ => 0

/-- No window. -/
theorem no_windows (Φ : Fin cfg0.W → sProp 𝕄) : bigSep Finset.univ Φ = iprop(emp) := bigSep_empty

theorem body_obligation (c : Dev nD) : Pipeline.BodyObligation (dats (F := F) m 0 c) (defs₀ (F := F)) 𝒱₀ () Set.univ := fun t => by
  rw [fin_N0 t, no_windows, no_windows]
  show iprop(Φ₀ m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) cc0_scratch3 cc0_scratch4 cc0_scratch5 cc0_scratch6)
    (fun _ => iprop(bodyPost m c ∗ (dats m 0 c).owesAt () t0_0.succ ∗ emp))
  unfold Φ₀ Pipeline.Dat.owesAt Pipeline.owesWithin
  iintro ⟨⟨%K, Hpre⟩, ⟨%W, %hW, HO⟩, -⟩
  iapply (body_run m K c W fun _ => iprop(bodyPost m c ∗ (∃ W', ⌜_⌝ ∗ owes (c : Thread nD τ) 0 W') ∗ emp))
  isplitl [Hpre]; · iexact Hpre
  isplitl [HO]; · iexact HO
  iintro ⟨Hp, ⟨%W', HO⟩⟩
  isplitl [Hp]; · iexact Hp
  isplitl
  · iexists W'
    isplitr; · ipureintro; exact fun _ _ => Or.inl trivial
    iexact HO
  · iempintro

/-! ## The launch's side conditions -/

/-- What the body starts from, its scratch buffers apart. -/
def start (c : Dev nD) : sProp 𝕄 :=
  iprop(G' m c ∗ (cred (tallyAt (cell c 0) () 2) ∗ cred (tallyAt (cell c 3) () N) ∗ cred (tallyAt (cell c 4) () N)) ∗ levAts L lv
    ∗ (((c : Thread nD τ).loc main_arg0) ↦{fullShare} blk m c) ∗ (((c : Thread nD τ).loc main_v1) ↦{fullShare} m ((c : Thread nD τ).loc main_v1)))

/-- What is read of the last state: the barrier's counter, the argument and the result. -/
def finish (c : Dev nD) : sProp 𝕄 :=
  iprop(unscopedSems0 c ∗ (((c : Thread nD τ).loc main_arg0) ↦{fullShare} blk m c) ∗ (((c : Thread nD τ).loc main_v1) ↦{fullShare} outBuf m c))

theorem start_intro (c : Dev nD) :
    iprop(Pipeline.unscopedRestP Pipeline.Prefetch.none cfg0.spec c (fun b => m ((c : Thread nD τ).loc b)) ∗ levAts L lv
        ∗ Pipeline.launchCred owe4 c ∗ prngReg c (ρ c) ∗ G' m c)
      ⊢ |={Set.univ}=> iprop(start m c ∗ emp) := by
  rw [Pipeline.unscopedRestP_none, unscopedRest0_eq]
  iintro ⟨⟨Hx, Hout⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexact Hout
  · iempintro

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start G' bodyPre
  iintro ⟨⟨⟨⟨%K, HG⟩, Hloc⟩, ⟨H0, H3, H4⟩, Hlev, Hx, Hout⟩, -, ⟨%f0, Hs0⟩, ⟨%f1, Hs1⟩, ⟨%f2, Hs2⟩⟩
  iexists K
  isplitl [HG]; · iexact HG
  isplitl [H0]; · iexact H0
  isplitl [H3]; · iexact H3
  isplitl [H4]; · iexact H4
  isplitl [Hlev]; · iexact Hlev
  isplitl [Hloc]; · iexact Hloc
  isplitl [Hx]; · iexact Hx
  isplitl [Hout]; · iexists _; iexact Hout
  isplitl [Hs0]; · iexists f0; iexact Hs0
  isplitl [Hs1]; · iexists f1; iexact Hs1
  iexists f2; iexact Hs2

theorem phi_leave (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = bodyPost m c from rfl, scopedRest0_eq]
  unfold bodyPost finish
  iintro ⟨Hy0, Hy1, Hy2, Hy3, Hy4, Hloc, Hx, Hout, ⟨%f0, Hs0⟩, ⟨%f1, Hs1⟩, ⟨%f2, Hs2⟩⟩
  ihave Hs := (sems_sorted (F := F) c).2 $$ [Hy0 Hy1 Hy2 Hy3 Hy4 Hloc]
  · isplitr [Hloc]
    · iapply (Entails.of_eq (five (F := F) (fun k => semVal (cellAt (c, k)) 0)).symm)
      isplitl [Hy0]; · iexact Hy0
      isplitl [Hy1]; · iexact Hy1
      isplitl [Hy2]; · iexact Hy2
      isplitl [Hy3] <;> iassumption
    · iexact Hloc
  icases Hs with ⟨Hos, Hus⟩
  isplitl [Hus Hx Hout]
  · isplitl [Hus]; · iexact Hus
    isplitl [Hx] <;> iassumption
  isplitl [Hos]; · iexact Hos
  isplitl [Hs0]; · iexists f0; iexact Hs0
  isplitl [Hs1]; · iexists f1; iexact Hs1
  iexists f2; iexact Hs2

theorem waits (c : Dev nD) : (levAts L lv : sProp 𝕄) ⊢ Pipeline.cellsWaits cfgs (dats m) () 0 c :=
  Pipeline.cellsWaits_intro cfgs (dats m) () 0 c fun w s t => (show Fin 0 from w).elim0

/-- The last state, read. -/
theorem finish_read (c : Dev nD) (s' : Phys nD τ sig (Elt F)) :
    iprop(finish m c ∗ emp ∗ SI s')
      ⊢ |={Set.univ}=> iprop(⌜(s'.mem.mem ((c : Thread nD τ).loc main_arg0) = blk m c ∧ s'.mem.mem ((c : Thread nD τ).loc main_v1) = outBuf m c)
          ∧ ∀ sm : SemLoc sig, sm.isScoped .tc = false → s'.mem.sem ((c.tc : Thread nD τ), sm) = 0⌝ ∗ SI s') := by
  unfold finish
  iintro ⟨⟨Hu, Hx, Hout⟩, -, HSI⟩
  icombine HSI Hx gives %hx
  icombine HSI Hout gives %ho
  ihave %hs := (tcUnscoped_read c s') $$ [Hu HSI]
  · isplitl [Hu] <;> iassumption
  imodintro
  isplitr
  · ipureintro; exact ⟨⟨Buf.eq_of_forall_mem_univ hx, Buf.eq_of_forall_mem_univ ho⟩, hs⟩
  iexact HSI

/-! ## The run -/

set_option maxRecDepth 8000 in
/-- For any float values and from any memory with zero counters, every fair execution on the eight devices ends; each device's argument is as it was, its
    result is the stencil of the rows it holds and its neighbours' border rows, and every counter is zero. -/
theorem run_main : θ_run defs (onTc (τ := τ) (main (F := F))) (⟨m, fun _ => 0, ρ⟩ : MemSt nD τ sig (Elt F))
    (fun r => (∀ c : Dev nD, r.2.mem ((c : Thread nD τ).loc main_arg0) = blk m c ∧ r.2.mem ((c : Thread nD τ).loc main_v1) = outBuf m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun c w => (show Fin 0 from w).elim0)
    (hdistinct := winFacts0.arr_inj)
    (O₀ := owe4) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show (BI.own ((embR : Emb (UB × Counters) 𝕄) (initOf haloCells haloToks, 1)) : sProp 𝕄) ⊢ BI.own (ER (initOf haloCells haloToks)) from fun _ h => h) $$ HX
      imod (fund_halo m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi_enter m) (hout := phi_leave m)
    (QY := fun c s => (s.mem ((c : Thread nD τ).loc main_arg0) = blk m c ∧ s.mem ((c : Thread nD τ).loc main_v1) = outBuf m c)
      ∧ ∀ sm : SemLoc sig, sm.isScoped .tc = false → s.sem ((c.tc : Thread nD τ), sm) = 0)
    (hY := finish_read m)
    (hQ := fun _ h hs => ⟨fun c => (h c).2.2.1, sem_eq_zero hs fun c => (h c).2.2.2⟩)

end Cert.KernelIdeal.Halo

end
-- ==== Proof.Stencil.lean ====
/- The stencil over the whole array, as the reference writes it, against the devices' blocks of it, as the kernel writes them. -/
module

public import proofs.«01_k».proof.Proof.KernelIdeal.Value
public import proofs.«01_k».proof.Proof.Gen.ReferenceIdeal.Run
public import Idealize.ShloMosaic.Lib.Pipeline.Value
public import Idealize.ShloMosaic.Lib.Layout

@[expose] public section

set_option maxRecDepth 16384

noncomputable section

namespace Cert.Stencil

open Idealize.ShloMosaic Idealize.ShloMosaic.TcCoe Idealize.ShloMosaic.Tactic
open Cert.KernelIdeal.Halo (inner edge row outAt outBuf blk left right)

/-! ## The two ways to write the weighted sum -/

theorem quarter : Ideal.ofBits .f32 0x3E800000#32 = (((1 : ℝ) / 4 : ℝ) : EReal) := by
  simp [Ideal.ofBits, Ideal.ieee, -EReal.coe_mul]; norm_num

/-- On extended reals half the middle and a quarter of the neighbours' sum is the sum of the three products: a quarter is
    a positive real, so it distributes over the sum even where a neighbour is infinite. -/
theorem inner_eq_edge (a b d : Elt Ideal .f32) : inner (F := Ideal) a b d = edge (F := Ideal) a b d := by
  change Ideal.ofBits .f32 0x3F000000#32 * (b : EReal) + Ideal.ofBits .f32 0x3E800000#32 * ((a : EReal) + (d : EReal))
    = Ideal.ofBits .f32 0x3E800000#32 * (a : EReal) + Ideal.ofBits .f32 0x3F000000#32 * (b : EReal) + Ideal.ofBits .f32 0x3E800000#32 * (d : EReal)
  have h0 : (0 : EReal) ≤ Ideal.ofBits .f32 0x3E800000#32 := by
    rw [quarter]; exact EReal.coe_nonneg.2 (by norm_num)
  have h1 : Ideal.ofBits .f32 0x3E800000#32 ≠ ⊤ := by rw [quarter]; exact EReal.coe_ne_top _
  rw [EReal.left_distrib_of_nonneg_of_ne_top h0 h1, ← add_assoc]
  congr 1
  exact add_comm _ _

/-! ## The reference's result at an index -/

variable {F : FTy → Type} [FloatOps F]

open Cert.ReferenceIdeal Cert.ReferenceIdeal.Gen

/-- The reference's result, of its argument. -/
def ref (X : S65536x1024.Idx → Elt F .f32) : S65536x1024.Idx → Elt F .f32 :=
  concatenate S65536x1024 0
    [⟨S1x1024, extractStridedSlice S1x1024 ![0, 0] X Facts₀.slices_S65536x1024_S1x1024_0_0⟩,
     ⟨S65534x1024, addf (addf
        (mulf (broadcastInDim S65534x1024 ![] Facts₀.bcast_S_S65534x1024 (constant S_ .f32 0x3E800000#32)) (extractStridedSlice S65534x1024 ![0, 0] X Facts₀.slices_S65536x1024_S65534x1024_0_0))
        (mulf (broadcastInDim S65534x1024 ![] Facts₀.bcast_S_S65534x1024 (constant S_ .f32 0x3F000000#32)) (extractStridedSlice S65534x1024 ![1, 0] X Facts₀.slices_S65536x1024_S65534x1024_1_0)))
        (mulf (broadcastInDim S65534x1024 ![] Facts₀.bcast_S_S65534x1024 (constant S_ .f32 0x3E800000#32)) (extractStridedSlice S65534x1024 ![2, 0] X Facts₀.slices_S65536x1024_S65534x1024_2_0))⟩,
     ⟨S1x1024, extractStridedSlice S1x1024 ![65535, 0] X Facts₀.slices_S65536x1024_S1x1024_65535_0⟩]
    Facts₀.concatenates_S1x1024_S65534x1024_S1x1024_S65536x1024_d0

/-- Row `r` of the whole array. -/
def gRow (X : S65536x1024.Idx → Elt F .f32) (r : ℕ) (l : Fin 1024) : Elt F .f32 :=
  X (ix2 ⟨r % 65536, Nat.mod_lt _ (by decide)⟩ l)

theorem gRow_eq (X : S65536x1024.Idx → Elt F .f32) (r : ℕ) (l : Fin 1024) (k : S65536x1024.Idx) (h0 : (k 0).val = r) (h1 : (k 1).val = l.val) :
    X k = gRow X r l := by
  unfold gRow
  refine congrArg X (funext fun a => Fin.ext ?_)
  have hk : (k 0).val < 65536 := (k 0).isLt
  fin_cases a
  · exact h0.trans (Nat.mod_eq_of_lt (h0 ▸ hk)).symm
  · exact h1

/-- A run of rows cut out of the whole array, at an index. -/
theorem slice_apply (n o : ℕ) (X : S65536x1024.Idx → Elt F .f32) (h) (i : (⟨2, ![n, 1024]⟩ : Shape).Idx) :
    extractStridedSlice ⟨2, ![n, 1024]⟩ ![o, 0] X h i = gRow X (o + (i 0).val) (i 1) := by
  refine gRow_eq X _ _ _ ?_ ?_
  · rfl
  · exact Nat.zero_add _

theorem ref_first (X : S65536x1024.Idx → Elt F .f32) (j : S65536x1024.Idx) (l : Fin 1024) (h1 : (j 1).val = l.val) (h : (j 0).val = 0) : ref X j = gRow X 0 l := by
  unfold ref
  refine Eq.trans (concatenate_apply_piece (t := S65536x1024) 0 _ _ j 0 (by show 0 < 3; decide) S1x1024 _ rfl rfl 0 rfl (ix2 0 l)
    (fun b hb => by fin_cases b; · exact absurd rfl hb
                    · exact h1.symm) (by rw [h]; rfl)) ?_
  exact slice_apply 1 0 X _ _

theorem ref_last (X : S65536x1024.Idx → Elt F .f32) (j : S65536x1024.Idx) (l : Fin 1024) (h1 : (j 1).val = l.val) (h : (j 0).val = 65535) : ref X j = gRow X 65535 l := by
  unfold ref
  refine Eq.trans (concatenate_apply_piece (t := S65536x1024) 0 _ _ j 2 (by show 2 < 3; decide) S1x1024 _ rfl rfl 65535 rfl (ix2 0 l)
    (fun b hb => by fin_cases b; · exact absurd rfl hb
                    · exact h1.symm) (by rw [h]; rfl)) ?_
  exact slice_apply 1 65535 X _ _

theorem ref_mid (X : S65536x1024.Idx → Elt F .f32) (j : S65536x1024.Idx) (l : Fin 1024) (h1 : (j 1).val = l.val) (r : ℕ) (h : (j 0).val = r + 1) (hr : r < 65534) :
    ref X j = edge (gRow X r l) (gRow X (r + 1) l) (gRow X (r + 2) l) := by
  unfold ref
  refine Eq.trans (concatenate_apply_piece (t := S65536x1024) 0 _ _ j 1 (by show 1 < 3; decide) S65534x1024 _ rfl rfl 1 rfl (ix2 ⟨r, hr⟩ l)
    (fun b hb => by fin_cases b; · exact absurd rfl hb
                    · exact h1.symm) (by rw [h]; exact Nat.add_comm _ _)) ?_
  have e0 := slice_apply 65534 0 X Facts₀.slices_S65536x1024_S65534x1024_0_0 (ix2 ⟨r, hr⟩ l)
  have e1 := slice_apply 65534 1 X Facts₀.slices_S65536x1024_S65534x1024_1_0 (ix2 ⟨r, hr⟩ l)
  have e2 := slice_apply 65534 2 X Facts₀.slices_S65536x1024_S65534x1024_2_0 (ix2 ⟨r, hr⟩ l)
  change edge (extractStridedSlice _ _ _ _ _) (extractStridedSlice _ _ _ _ _) (extractStridedSlice _ _ _ _ _) = _
  rw [e0, e1, e2]
  change edge (gRow X (0 + r) _) (gRow X (1 + r) _) (gRow X (2 + r) _) = _
  rw [Nat.zero_add, Nat.add_comm 1 r, Nat.add_comm 2 r]
  rfl

/-! ## A device's block -/

/-- A row of a device's block is a row of the whole array. -/
theorem row_block (X : S65536x1024.Idx → Elt F .f32) (h) (c : Fin 8) (r : ℕ) (hr : r < 8192) (l : Fin 1024) :
    row (Layout.block ⟨2, ![8192, 1024]⟩ S65536x1024 0 8 c X h) r l = gRow X (c.val * 8192 + r) l := by
  unfold row
  rw [Layout.block_apply]
  refine gRow_eq X _ _ _ ?_ ?_
  · rw [Layout.Tiles.idx_val]
    show c.val * 8192 + r % 8192 = _
    rw [Nat.mod_eq_of_lt hr]
  · rfl

/-- Every device's result is its block of the reference's. -/
theorem outBuf_eq (m : (ℓ : Loc Cert.KernelIdeal.nD Cert.KernelIdeal.τ Cert.KernelIdeal.sig) → Buf (Elt Ideal) ℓ) (X : S65536x1024.Idx → Elt Ideal .f32) (h)
    (hX : ∀ c : Dev Cert.KernelIdeal.nD, blk (F := Ideal) m c = Layout.block ⟨2, ![8192, 1024]⟩ S65536x1024 0 8 c X h) (c : Dev Cert.KernelIdeal.nD) :
    outBuf (F := Ideal) m c = Layout.block ⟨2, ![8192, 1024]⟩ S65536x1024 0 8 c (ref (F := Ideal) X) h := by
  funext i
  have hrow : ∀ (d : Dev Cert.KernelIdeal.nD) (r : ℕ) (hr : r < 8192) (l : Fin 1024), row (F := Ideal) (blk m d) r l = gRow (F := Ideal) X (d.val * 8192 + r) l := fun d r hr l => by
    rw [hX]; exact row_block X h d r hr l
  have hc : c.val < 8 := c.isLt
  have hi : (i 0).val < 8192 := (i 0).isLt
  rw [Layout.block_apply]
  have j0 : ((h.idx c i) 0).val = c.val * 8192 + (i 0).val := Layout.Tiles.idx_val h c i 0
  have j1 : ((h.idx c i) 1).val = (show Fin 1024 from i 1).val := Layout.Tiles.idx_val h c i 1
  generalize h.idx c i = j at j0 j1
  show outAt (F := Ideal) m c (i 0).val (show Fin 1024 from i 1) = _
  generalize (show Fin 1024 from i 1) = l at *
  generalize (i 0).val = r at *
  unfold outAt
  by_cases hr0 : r = 0
  · rw [if_pos hr0]
    by_cases hc0 : c.val = 0
    · rw [if_pos hc0, ref_first X j l j1 (by omega), hrow _ _ (by omega)]
      congr 1; omega
    · have hl : (left c).val = c.val - 1 := by show (c.val + 7) % 8 = _; omega
      rw [if_neg hc0, ref_mid X j l j1 (c.val * 8192 - 1) (by omega) (by omega), hrow _ _ (by omega), hrow _ _ (by omega), hrow _ _ (by omega), hl]
      congr 2 <;> omega
  · rw [if_neg hr0]
    by_cases hr1 : r = 8191
    · rw [if_pos hr1]
      by_cases hc7 : c.val = 7
      · rw [if_pos hc7, ref_last X j l j1 (by omega), hrow _ _ (by omega)]
        congr 1; omega
      · have hl : (right c).val = c.val + 1 := by show (c.val + 1) % 8 = _; omega
        have g0 : (j 0).val = c.val * 8192 + 8190 + 1 := by rw [j0, hr1]
        have g1 : c.val * 8192 + 8190 < 65534 := by omega
        have g2 : c.val * 8192 + 8190 + 2 = (c.val + 1) * 8192 + 0 := by rw [Nat.succ_mul]
        rw [if_neg hc7, ref_mid X j l j1 _ g0 g1, hrow _ _ (by decide), hrow _ _ (by decide), hrow _ _ (by decide), hl, g2, Nat.add_assoc _ 8190 1]
    · obtain ⟨k, rfl⟩ : ∃ k, r = k + 1 := ⟨r - 1, by omega⟩
      have g0 : (j 0).val = c.val * 8192 + k + 1 := j0.trans (Nat.add_assoc _ _ _).symm
      have g1 : c.val * 8192 + k < 65534 := by omega
      rw [if_neg hr1, inner_eq_edge, ref_mid X j l j1 _ g0 g1, hrow _ _ (by omega), hrow _ _ (by omega), hrow _ _ (by omega), Nat.add_sub_cancel,
        ← Nat.add_assoc, ← Nat.add_assoc, ← Nat.add_assoc]

end Cert.Stencil

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Stencil
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, ?_, ?_, ?_, trivial, ?_⟩
  · intro m g _
    exact θ_run_mono (Cert.Kernel.Halo.run_main (F := Bits) m g) fun r h => ⟨fun c => (h.1 c).1, h.2⟩
  · intro m g _
    exact θ_run_mono (Cert.KernelIdeal.Halo.run_main (F := Ideal) m g) fun r h => ⟨fun c => (h.1 c).1, h.2⟩
  · intro m g _
    exact θ_run_mono (Cert.ReferenceIdeal.Value.run (F := Ideal) m g) fun r h => ⟨fun c => (h c).2, sem_eq_zero_of_no_sems rfl r.2⟩
  · intro m g m' g' _ hm
    refine ⟨_, θ_run_mono (Cert.KernelIdeal.Halo.run_main (F := Ideal) m g) fun r h c => ⟨?_, (h.1 c).1⟩,
      θ_run_mono (Cert.ReferenceIdeal.Value.run (F := Ideal) m' g') fun r h => h 0⟩
    exact (h.1 c).2.trans (Cert.Stencil.outBuf_eq m _ (by decide) hm c)

end Cert.Proof

end
